-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S2048 .f32) (main_arg6 : FVec F S2048 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x2048x2048 .f32) (main_arg1 : FVec F S2048x2048 .f32) (main_arg2 : FVec F S2048 .f32) (main_arg3 : FVec F S2048x64 .f32) (main_arg4 : FVec F S64 .f32) (main_arg5 : FVec F S2048 .f32) (main_arg6 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S8192x2048 : Shape := ⟨2, ![8192, 2048]⟩
abbrev S1x2048 : Shape := ⟨2, ![1, 2048]⟩
abbrev S1x64 : Shape := ⟨2, ![1, 64]⟩
abbrev S8192x8 : Shape := ⟨2, ![8192, 8]⟩
abbrev S1x1 : Shape := ⟨2, ![1, 1]⟩
abbrev S1024x2048 : Shape := ⟨2, ![1024, 2048]⟩
abbrev S1024x8 : Shape := ⟨2, ![1024, 8]⟩
abbrev S1024x128 : Shape := ⟨2, ![1024, 128]⟩
abbrev S128x1024 : Shape := ⟨2, ![128, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S1024x1 : Shape := ⟨2, ![1024, 1]⟩
abbrev S1024x64 : Shape := ⟨2, ![1024, 64]⟩
abbrev S1024 : Shape := ⟨1, ![1024]⟩
abbrev S1x1x64 : Shape := ⟨3, ![1, 1, 64]⟩
abbrev S1 : Shape := ⟨1, ![1]⟩
abbrev S1x1x1 : Shape := ⟨3, ![1, 1, 1]⟩
abbrev S4x2048x8 : Shape := ⟨3, ![4, 2048, 8]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S2048x2048, .bf16⟩
  | .hbm, ⟨9, _⟩ => ⟨S1x2048, .f32⟩
  | .hbm, ⟨10, _⟩ => ⟨S2048x64, .bf16⟩
  | .hbm, ⟨11, _⟩ => ⟨S1x64, .f32⟩
  | .hbm, ⟨12, _⟩ => ⟨S1x2048, .f32⟩
  | .hbm, ⟨13, _⟩ => ⟨S1x2048, .f32⟩
  | .hbm, ⟨14, _⟩ => ⟨S8192x8, .i32⟩
  | .hbm, ⟨15, _⟩ => ⟨S8192x8, .f32⟩
  | .hbm, ⟨16, _⟩ => ⟨S1x1, .f32⟩
  | .hbm, ⟨17, _⟩ => ⟨S4x2048x8, .i32⟩
  | .hbm, ⟨18, _⟩ => ⟨S4x2048x8, .f32⟩
  | .hbm, ⟨19, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1x2048, .f32⟩
  | .local _ .vmem, ⟨4, _⟩ => ⟨S2048x64, .bf16⟩
  | .local _ .vmem, ⟨5, _⟩ => ⟨S1x64, .f32⟩
  | .local _ .vmem, ⟨6, _⟩ => ⟨S1x2048, .f32⟩
  | .local _ .vmem, ⟨7, _⟩ => ⟨S1x2048, .f32⟩
  | .local _ .vmem, ⟨8, _⟩ => ⟨S1024x8, .i32⟩
  | .local _ .vmem, ⟨9, _⟩ => ⟨S1024x8, .i32⟩
  | .local _ .vmem, ⟨10, _⟩ => ⟨S1024x8, .f32⟩
  | .local _ .vmem, ⟨11, _⟩ => ⟨S1024x8, .f32⟩
  | .local _ .vmem, ⟨12, _⟩ => ⟨S1x1, .f32⟩
  | .local _ .vmem, ⟨13, _⟩ => ⟨S1x64, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v308 : BitVec 1 := Scalar.cmpi .eq arg0 c7_i32
  let v309 : BitVec 32 := Scalar.extui v308
  let c0_i32_62 : BitVec 32 := 0#32
  let v310 : BitVec 1 := Scalar.cmpi .ne v309 c0_i32_62
  v310

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x64 : Shape := ⟨3, ![4, 2048, 64]⟩
abbrev S1x1x64 : Shape := ⟨3, ![1, 1, 64]⟩
abbrev S4x2048x8 : Shape := ⟨3, ![4, 2048, 8]⟩

abbrev nBuf : Space → Nat
  | .hbm => 98
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .i32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1, .f32⟩
  | .hbm, ⟨43, _⟩ => ⟨S4x2048x2048, .f32⟩
  | .hbm, ⟨44, _⟩ => ⟨S4x2048x2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S1x1x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x64, .f32⟩
  | .hbm, ⟨59, _⟩ => ⟨S1x1x64, .f32⟩
  | .hbm, ⟨60, _⟩ => ⟨S4x2048x64, .f32⟩
  | .hbm, ⟨61, _⟩ => ⟨S4x2048x64, .f32⟩
  | .hbm, ⟨62, _⟩ => ⟨S_, .f32⟩
  | .hbm, ⟨63, _⟩ => ⟨S4x2048, .f32⟩
  | .hbm, ⟨64, _⟩ => ⟨S_, .f32⟩
  | .hbm, ⟨65, _⟩ => ⟨S4x2048, .f32⟩
  | .hbm, ⟨66, _⟩ => ⟨S4x2048, .f32⟩
  | .hbm, ⟨67, _⟩ => ⟨S4x2048x1, .f32⟩
  | .hbm, ⟨68, _⟩ => ⟨S4x2048x64, .f32⟩
  | .hbm, ⟨69, _⟩ => ⟨S4x2048x64, .f32⟩
  | .hbm, ⟨70, _⟩ => ⟨S4x2048x64, .f32⟩
  | .hbm, ⟨71, _⟩ => ⟨S_, .f32⟩
  | .hbm, ⟨72, _⟩ => ⟨S4x2048, .f32⟩
  | .hbm, ⟨73, _⟩ => ⟨S4x2048x1, .f32⟩
  | .hbm, ⟨74, _⟩ => ⟨S4x2048x64, .f32⟩
  | .hbm, ⟨75, _⟩ => ⟨S4x2048x64, .f32⟩
  | .hbm, ⟨76, _⟩ => ⟨S4x2048x8, .f32⟩
  | .hbm, ⟨77, _⟩ => ⟨S4x2048x8, .i32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S4x2048x8, .f32⟩
  | .hbm, ⟨82, _⟩ => ⟨S4x2048x8, .f32⟩
  | .hbm, ⟨83, _⟩ => ⟨S_, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call1_cst : Ref sig .tc := ⟨.hbm, 55, rfl⟩
abbrev main_call1_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_values : Ref sig .tc := ⟨.hbm, 76, rfl⟩
abbrev main_indices : Ref sig .tc := ⟨.hbm, 77, rfl⟩
abbrev main_cst_5 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_cst_7 : Ref sig .tc := ⟨.hbm, 85, rfl⟩
abbrev main_v43 : Ref sig .tc := ⟨.hbm, 86, rfl⟩
abbrev main_v44 : Ref sig .tc := ⟨.hbm, 87, rfl⟩
abbrev main_cst_8 : Ref sig .tc := ⟨.hbm, 88, rfl⟩
abbrev main_v45 : Ref sig .tc := ⟨.hbm, 89, rfl⟩
abbrev main_v46 : Ref sig .tc := ⟨.hbm, 90, rfl⟩
abbrev main_cst_9 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_10 : Ref sig .tc := ⟨.hbm, 96, rfl⟩
abbrev main_v51 : Ref sig .tc := ⟨.hbm, 97, rfl⟩

abbrev nD : Nat := 1
abbrev τ : Topo := Topo.v7x

variable {F : FTy → Type} [FloatOps F]
-- ==== Proof.TopK.lean ====
module

public import proofs.«01_k».proof.Defs
public import Idealize.ShloMosaic.Lib.SortPrefix
public import Idealize.ShloMosaic.Lib.SortNet.Extract

@[expose] public section

noncomputable section

/-! The eight greatest entries of a row of 64 values above −1, by eight rounds of "the maximum, the first position
    holding it, that position overwritten by −1", are the first eight of the row sorted stably from the greatest down. -/

namespace Cert.TopK

open Idealize.ShloMosaic

/-- The greatest entry of a row. -/
def mx (c : Fin 64 → EReal) : EReal := (Finset.univ : Finset (Fin 64)).fold max ⊥ c

/-- The first position of the greatest entry, as the kernel finds it: the least of the positions holding it. -/
def am (c : Fin 64 → EReal) : BitVec 32 :=
  (Finset.univ : Finset (Fin 64)).fold IntOp.minsi 2147483647#32
    fun k => if c k = mx c then BitVec.ofNat 32 k.val else 64#32

/-- The row after a round: the picked position overwritten by −1. -/
def nx (c : Fin 64 → EReal) : Fin 64 → EReal := fun k => if BitVec.ofNat 32 k.val = am c then -1 else c k

/-- The row after `n` rounds. -/
def cur (p : Fin 64 → EReal) : Nat → Fin 64 → EReal
  | 0 => p
  | n + 1 => nx (cur p n)

/-- No entry is above the greatest. -/
theorem le_mx (c : Fin 64 → EReal) (k : Fin 64) : c k ≤ mx c :=
  (Finset.fold_max_le (mx c)).mp le_rfl |>.2 k (Finset.mem_univ k)

/-- Some entry is the greatest. -/
theorem exists_mx (c : Fin 64 → EReal) : ∃ k, c k = mx c := by
  obtain ⟨k, -, hk⟩ := Finset.exists_max_image (Finset.univ : Finset (Fin 64)) c ⟨0, Finset.mem_univ 0⟩
  refine ⟨k, le_antisymm (le_mx c k) ((Finset.fold_max_le _).mpr ⟨bot_le, fun j hj => hk j hj⟩)⟩

/-- The first position of the greatest entry. -/
def pick (c : Fin 64 → EReal) : Fin 64 :=
  (Finset.univ.filter fun k => c k = mx c).min'
    ((exists_mx c).elim fun k hk => ⟨k, Finset.mem_filter.mpr ⟨Finset.mem_univ k, hk⟩⟩)

/-- The picked position holds the greatest entry. -/
theorem pick_spec (c : Fin 64 → EReal) : c (pick c) = mx c :=
  (Finset.mem_filter.mp (Finset.min'_mem (Finset.univ.filter fun k => c k = mx c) _)).2

/-- The picked position is the first that holds the greatest entry. -/
theorem pick_le (c : Fin 64 → EReal) (k : Fin 64) (h : c k = mx c) : pick c ≤ k :=
  Finset.min'_le _ k (Finset.mem_filter.mpr ⟨Finset.mem_univ k, h⟩)

/-- A fold by the signed minimum of words, read as integers, is a fold by the minimum. -/
theorem toInt_fold_minsi (s : Finset (Fin 64)) (b : BitVec 32) (f : Fin 64 → BitVec 32) :
    (s.fold IntOp.minsi b f).toInt = s.fold min b.toInt fun k => (f k).toInt := by
  induction s using Finset.induction_on with
  | empty => rw [Finset.fold_empty, Finset.fold_empty]
  | insert a s ha ih => rw [Finset.fold_insert ha, Finset.fold_insert ha, SortNet.toInt_minsi, ih]

/-- A position below 64 as a word, read back as an integer, is itself. -/
theorem toInt_ofNat64 (k : Fin 64) : (BitVec.ofNat 32 k.val).toInt = (k.val : Int) := by
  revert k; decide

/-- The least position found is the first position of the greatest entry. -/
theorem am_eq (c : Fin 64 → EReal) : am c = BitVec.ofNat 32 (pick c).val := by
  apply BitVec.eq_of_toInt_eq
  unfold am
  rw [toInt_fold_minsi, toInt_ofNat64]
  apply le_antisymm
  · refine (Finset.fold_min_le _).mpr (Or.inr ⟨pick c, Finset.mem_univ _, ?_⟩)
    rw [if_pos (pick_spec c), toInt_ofNat64]
  · refine (Finset.le_fold_min _).mpr ⟨?_, fun k _ => ?_⟩
    · have h1 : (2147483647#32).toInt = 2147483647 := by decide
      have := (pick c).isLt
      rw [h1]; omega
    · by_cases hk : c k = mx c
      · rw [if_pos hk, toInt_ofNat64]
        have := pick_le c k hk
        rw [Fin.le_def] at this
        omega
      · rw [if_neg hk]
        have h1 : (64#32).toInt = 64 := by decide
        have := (pick c).isLt
        rw [h1]; omega

/-- Positions below 64 are equal when their words are. -/
theorem ofNat64_inj (k l : Fin 64) : BitVec.ofNat 32 k.val = BitVec.ofNat 32 l.val ↔ k = l := by
  constructor
  · intro h
    have := congrArg BitVec.toInt h
    rw [toInt_ofNat64, toInt_ofNat64] at this
    exact Fin.ext (by omega)
  · rintro rfl; rfl

/-- A round puts −1 at the picked position. -/
theorem nx_eq (c : Fin 64 → EReal) (k : Fin 64) : nx c k = if k = pick c then -1 else c k := by
  unfold nx
  rw [am_eq, if_congr (ofNat64_inj k (pick c)) rfl rfl]

section rounds

variable (p : Fin 64 → EReal)

/-- The position picked in round `n`. -/
def sel (n : Nat) : Fin 64 := pick (cur p n)

/-- After `n` rounds the picked positions hold −1 and the others what they held. -/
theorem cur_eq (n : Nat) (k : Fin 64) : cur p n k = if ∃ j < n, sel p j = k then -1 else p k := by
  induction n with
  | zero => rw [if_neg (by rintro ⟨j, hj, -⟩; exact absurd hj (Nat.not_lt_zero j))]; rfl
  | succ n ih =>
    show nx (cur p n) k = _
    rw [nx_eq, ih]
    by_cases hk : k = pick (cur p n)
    · rw [if_pos hk, if_pos ⟨n, Nat.lt_succ_self n, hk.symm⟩]
    · rw [if_neg hk]
      refine if_congr ⟨fun ⟨j, hj, e⟩ => ⟨j, Nat.lt_succ_of_lt hj, e⟩, fun ⟨j, hj, e⟩ => ⟨j, ?_, e⟩⟩ rfl rfl
      rcases Nat.lt_succ_iff_lt_or_eq.mp hj with h | h
      · exact h
      · subst h; exact absurd e.symm hk

/-- A position not yet picked holds what it held. -/
theorem cur_of_unpicked (n : Nat) (k : Fin 64) (h : ∀ j < n, sel p j ≠ k) : cur p n k = p k := by
  rw [cur_eq, if_neg]; rintro ⟨j, hj, e⟩; exact h j hj e

variable (hp : ∀ k, -1 < p k)

include hp

/-- No position is picked twice. -/
theorem sel_new (n : Nat) (hn : n < 64) (j : Nat) (hj : j < n) : sel p j ≠ sel p n := by
  intro e
  have h1 : cur p n (sel p n) = -1 := by rw [cur_eq, if_pos ⟨j, hj, e⟩]
  have h2 : mx (cur p n) = -1 := by rw [← pick_spec]; exact h1
  obtain ⟨k, hk⟩ : ∃ k, k ∉ (Finset.range n).image (sel p) := by
    by_contra hc
    push Not at hc
    have : (Finset.univ : Finset (Fin 64)).card ≤ ((Finset.range n).image (sel p)).card :=
      Finset.card_le_card fun k _ => hc k
    have h3 := this.trans Finset.card_image_le
    rw [Finset.card_range, Finset.card_univ, Fintype.card_fin] at h3
    omega
  have h4 : cur p n k = p k := cur_of_unpicked p n k fun j hj e => hk
    (Finset.mem_image.mpr ⟨j, Finset.mem_range.mpr hj, e⟩)
  have h5 := le_mx (cur p n) k
  rw [h4, h2] at h5
  exact absurd (hp k) (not_lt.mpr h5)

/-- The greatest entry left after `n` rounds is the entry at the position picked next. -/
theorem mx_cur (n : Nat) (hn : n < 64) : mx (cur p n) = p (sel p n) := by
  rw [← pick_spec]
  exact cur_of_unpicked p n _ fun j hj => sel_new p hp n hn j hj

omit hp in
/-- "Before" in the sorted row: the greater entry, and of equal entries the earlier position. -/
def before (k k' : Fin 64) : Bool := decide (p k' < p k) || (decide (p k = p k') && decide (k < k'))

/-- No position left unpicked comes before the one picked next. -/
theorem not_before_sel (n : Nat) (hn : n < 64) (k : Fin 64) (h : ∀ j < n, sel p j ≠ k) :
    before p k (sel p n) = false := by
  have h1 : p k ≤ p (sel p n) := by
    rw [← mx_cur p hp n hn, ← cur_of_unpicked p n k h]; exact le_mx _ _
  unfold before
  rw [Bool.or_eq_false_iff]
  refine ⟨decide_eq_false (not_lt.mpr h1), ?_⟩
  by_cases e : p k = p (sel p n)
  · have h2 : sel p n ≤ k := pick_le _ _ (by rw [cur_of_unpicked p n k h, mx_cur p hp n hn, e])
    rw [decide_eq_false (not_lt.mpr h2), Bool.and_false]
  · rw [decide_eq_false e, Bool.false_and]

omit hp in
/-- Two orders that agree on whether a later position goes before an earlier one sort an ascending list of positions the
    same. -/
theorem insertBefore_sorted_congr (R R' : Fin 64 → Fin 64 → Bool) (h : ∀ a b, a < b → R b a = R' b a)
    (l : List (Fin 64)) (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ((perm_stableSort R' l).mem_iff.mp hb))

omit hp in
/-- Two sorts with the same list of positions put the same position at each place. -/
theorem sortedFrom_of_positions {n : Nat} (R R' : Fin n → Fin n → Bool) (h : sortPositions n R = sortPositions n R') :
    sortedFrom R = sortedFrom R' := by
  funext k
  unfold sortedFrom
  rw [List.get_of_eq h]
  rfl

omit hp in
/-- Sorting stably by the entries alone is sorting by the entry and then the position. -/
theorem sortedFrom_value : sortedFrom (fun k k' => decide (p k' < p k)) = sortedFrom (before p) := by
  exact sortedFrom_of_positions _ _ (insertBefore_sorted_congr _ _ (fun a b hab => by
    unfold before
    rw [decide_eq_false (not_lt.mpr hab.le), Bool.and_false, Bool.or_false]) _ (List.pairwise_lt_finRange 64))

/-- The `i`-th entry of the sorted row is the one picked in round `i`. -/
theorem sortedFrom_eq_sel (i : Fin 8) :
    sortedFrom (fun k k' => decide (p k' < p k)) (i.castLE (by decide : 8 ≤ 64)) = sel p i.val := by
  rw [sortedFrom_value]
  have hB : StrictTotalBefore (before p) :=
    StrictTotalBefore.of_key_then_position (κ := EReal) (fun a b => decide (b < a)) p (fun a => by simp)
      (fun a b c h1 h2 => by simp only [decide_eq_true_eq] at *; exact h2.trans h1)
      (fun a b => by
        simp only [decide_eq_true_eq]
        rcases lt_trichotomy a b with h | h | h
        · exact Or.inr (Or.inr h)
        · exact Or.inr (Or.inl h)
        · exact Or.inl h)
  have hne : ∀ i j : Fin 8, i < j → sel p i.val ≠ sel p j.val := fun i j h =>
    sel_new p hp j.val (by have := j.isLt; omega) i.val h
  have hinj : Function.Injective (fun i : Fin 8 => sel p i.val) := fun i j e => by
    rcases lt_trichotomy i j with h | h | h
    · exact absurd e (hne i j h)
    · exact h
    · exact absurd e.symm (hne j i h)
  have hord : ∀ i j : Fin 8, i < j → before p (sel p j.val) (sel p i.val) = false := fun i j h =>
    not_before_sel p hp i.val (by have := i.isLt; omega) _ fun l hl =>
      hne ⟨l, by have := i.isLt; omega⟩ j (Fin.lt_def.mpr (by have := Fin.lt_def.mp h; show l < j.val; omega))
  have hdom : ∀ (i : Fin 8) (q : Fin 64), (∀ j : Fin 8, sel p j.val ≠ q) → before p q (sel p i.val) = false :=
    fun i q h => not_before_sel p hp i.val (by have := i.isLt; omega) q fun l hl =>
      h ⟨l, by have := i.isLt; omega⟩
  exact hB.sortedFrom_eq_of_prefix (by decide : 8 ≤ 64) (fun i : Fin 8 => sel p i.val) hinj hord hdom i

end rounds

end Cert.TopK

end
-- ==== Proof.Row.lean ====
module

public import proofs.«01_k».proof.Proof.TopK
public import Idealize.ShloMosaic.PureOps.Ideal.Laws
public import Idealize.ShloMosaic.Lib.IdealHost

@[expose] public section

noncomputable section

/-! The router's mathematics on one token over the extended reals, and that on finite inputs every stage is a real
    number, so that the probabilities are at least zero. -/

namespace Cert.Row

open Idealize.ShloMosaic

/-- The row length, 2048. -/
def cN : EReal := Ideal.ofBits .f32 0x45000000#32
/-- The small number added to the variance. -/
def cE : EReal := Ideal.ofBits .f32 0x3727C5AC#32

/-- The row length is the real 2048. -/
theorem cN_eq : cN = ((2048 : ℝ) : EReal) := by
  unfold cN
  simp [Ideal.ofBits, Ideal.ieee, -EReal.coe_mul]
  norm_num
/-- The small number added to the variance is a positive real. -/
theorem cE_eq : ∃ r : ℝ, 0 < r ∧ cE = (r : EReal) := by
  refine ⟨(2606508 + 8388608 : ℝ) * 2 ^ (-40 : ℤ), by positivity, ?_⟩
  unfold cE
  simp [Ideal.ofBits, Ideal.ieee, -EReal.coe_mul]
  norm_num
/-- The word the kernel masks with is −1. -/
theorem neg_one_eq : Ideal.ofBits .f32 0xBF800000#32 = (-1 : EReal) := by
  have h : (-1 : EReal) = ((-1 : ℝ) : EReal) := by norm_num
  rw [h]
  simp [Ideal.ofBits, Ideal.ieee, -EReal.coe_mul]
  norm_num
/-- The word a maximum starts from is −∞. -/
theorem neg_inf_eq : Ideal.ofBits .f32 0xFF800000#32 = (⊥ : EReal) := by
  simp [Ideal.ofBits, Ideal.ieee]
/-- The word the precondition compares with is ∞. -/
theorem inf_eq : Ideal.ofBits .f32 0x7F800000#32 = (⊤ : EReal) := by
  simp [Ideal.ofBits, Ideal.ieee]

/-! ## The stages -/

/-- The mean of a token's features. -/
def mean (x : Fin 2048 → EReal) : EReal := Ideal.div (∑ k, x k) cN

/-- The features less their mean. -/
def ctr (x : Fin 2048 → EReal) (k : Fin 2048) : EReal := x k - mean x

/-- The mean of the squares of the centred features. -/
def var (x : Fin 2048 → EReal) : EReal := Ideal.div (∑ k, ctr x k * ctr x k) cN

/-- The normalised features, scaled and shifted. -/
def nrm (x g b : Fin 2048 → EReal) (k : Fin 2048) : EReal :=
  Ideal.div (ctr x k) (Ideal.sqrt (var x + cE)) * g k + b k

/-- The hidden layer: a linear map, a bias, and the maximum with zero. -/
def hid (n : Fin 2048 → EReal) (W1 : Fin 2048 → Fin 2048 → EReal) (b1 : Fin 2048 → EReal) (j : Fin 2048) : EReal :=
  max (∑ k, n k * W1 k j + b1 j) 0

/-- The logits. -/
def lgt (h : Fin 2048 → EReal) (W2 : Fin 2048 → Fin 64 → EReal) (b2 : Fin 64 → EReal) (e : Fin 64) : EReal :=
  ∑ j, h j * W2 j e + b2 e

/-- The softmax of a row of logits, the row's maximum taken off first. -/
def smax (l : Fin 64 → EReal) (e : Fin 64) : EReal :=
  Ideal.div (Ideal.exp (l e - TopK.mx l)) (∑ e', Ideal.exp (l e' - TopK.mx l))

/-- The probabilities of a token. -/
def prb (x : Fin 2048 → EReal) (W1 : Fin 2048 → Fin 2048 → EReal) (b1 : Fin 2048 → EReal)
    (W2 : Fin 2048 → Fin 64 → EReal) (b2 : Fin 64 → EReal) (g b : Fin 2048 → EReal) : Fin 64 → EReal :=
  smax (lgt (hid (nrm x g b) W1 b1) W2 b2)

/-! ## Finite inputs -/

/-- A value that is a real number. -/
def IsFin (a : EReal) : Prop := ∃ r : ℝ, a = (r : EReal)

/-- A sum of reals is real. -/
theorem IsFin.add {a b : EReal} (ha : IsFin a) (hb : IsFin b) : IsFin (a + b) := by
  obtain ⟨r, rfl⟩ := ha; obtain ⟨q, rfl⟩ := hb; exact ⟨r + q, by norm_cast⟩

/-- A difference of reals is real. -/
theorem IsFin.sub {a b : EReal} (ha : IsFin a) (hb : IsFin b) : IsFin (a - b) := by
  obtain ⟨r, rfl⟩ := ha; obtain ⟨q, rfl⟩ := hb; exact ⟨r - q, by norm_cast⟩

/-- A product of reals is real. -/
theorem IsFin.mul {a b : EReal} (ha : IsFin a) (hb : IsFin b) : IsFin (a * b) := by
  obtain ⟨r, rfl⟩ := ha; obtain ⟨q, rfl⟩ := hb; exact ⟨r * q, by norm_cast⟩

/-- Zero is real. -/
theorem IsFin.zero : IsFin 0 := ⟨0, by norm_cast⟩

/-- The greater of two reals is real. -/
theorem IsFin.max {a b : EReal} (ha : IsFin a) (hb : IsFin b) : IsFin (max a b) := by
  rcases max_choice a b with h | h <;> rw [h] <;> assumption

/-- A finite sum of reals is real. -/
theorem IsFin.sum {n : Nat} {f : Fin n → EReal} (h : ∀ k, IsFin (f k)) : IsFin (∑ k, f k) :=
  Finset.sum_induction f IsFin (fun _ _ => IsFin.add) IsFin.zero fun k _ => h k

/-- A real divided by a real other than zero is real. -/
theorem IsFin.div {a : EReal} (ha : IsFin a) {y : ℝ} (hy : y ≠ 0) : IsFin (Ideal.div a (y : EReal)) := by
  rw [Ideal.div_coe hy]; exact ha.mul ⟨_, rfl⟩

/-- The mean of a real row is real. -/
theorem IsFin.mean {x : Fin 2048 → EReal} (hx : ∀ k, IsFin (x k)) : IsFin (mean x) := by
  unfold Row.mean; rw [cN_eq]; exact (IsFin.sum hx).div (by norm_num)

/-- An entry of a real row less the mean is real. -/
theorem IsFin.ctr {x : Fin 2048 → EReal} (hx : ∀ k, IsFin (x k)) (k : Fin 2048) : IsFin (ctr x k) :=
  (hx k).sub (IsFin.mean hx)

/-- A square is not negative. -/
theorem mul_self_nonneg' (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A variance is not negative. -/
theorem var_nonneg (x : Fin 2048 → EReal) : 0 ≤ var x := by
  unfold var
  rw [cN_eq, Ideal.div_coe (by norm_num : (2048 : ℝ) ≠ 0)]
  exact EReal.mul_nonneg (Finset.sum_nonneg fun k _ => mul_self_nonneg' _) (by norm_cast; norm_num)

/-- The variance of a real row is real. -/
theorem IsFin.var {x : Fin 2048 → EReal} (hx : ∀ k, IsFin (x k)) : IsFin (var x) := by
  unfold Row.var; rw [cN_eq]
  exact (IsFin.sum fun k => (IsFin.ctr hx k).mul (IsFin.ctr hx k)).div (by norm_num)

/-- The standard deviation of finite features is a real number above zero. -/
theorem sd_pos {x : Fin 2048 → EReal} (hx : ∀ k, IsFin (x k)) : ∃ r : ℝ, 0 < r ∧ Ideal.sqrt (var x + cE) = (r : EReal) := by
  obtain ⟨v, hv⟩ := IsFin.var hx
  obtain ⟨e, he, hE⟩ := cE_eq
  have h0 : (0 : ℝ) ≤ v := by have := var_nonneg x; rw [hv] at this; exact_mod_cast this
  refine ⟨Real.sqrt (v + e), Real.sqrt_pos.mpr (by linarith), ?_⟩
  rw [hv, hE, ← EReal.coe_add, Ideal.sqrt_coe, if_neg (by linarith)]

/-- The normalised row of a real row is real. -/
theorem IsFin.nrm {x g b : Fin 2048 → EReal} (hx : ∀ k, IsFin (x k)) (hg : ∀ k, IsFin (g k)) (hb : ∀ k, IsFin (b k))
    (k : Fin 2048) : IsFin (nrm x g b k) := by
  unfold Row.nrm
  obtain ⟨r, hr, e⟩ := sd_pos hx
  rw [e]
  exact (((IsFin.ctr hx k).div hr.ne').mul (hg k)).add (hb k)

/-- The kernel multiplies by the reciprocal of the standard deviation. -/
theorem nrm_eq_mul {x g b : Fin 2048 → EReal} (hx : ∀ k, IsFin (x k)) (k : Fin 2048) :
    ctr x k * Ideal.div 1 (Ideal.sqrt (var x + cE)) * g k + b k = nrm x g b k := by
  unfold nrm
  obtain ⟨r, hr, e⟩ := sd_pos hx
  rw [e, Ideal.div_coe hr.ne', Ideal.div_coe hr.ne', one_mul]

/-- The hidden layer of a real row is real. -/
theorem IsFin.hid {n : Fin 2048 → EReal} {W1 : Fin 2048 → Fin 2048 → EReal} {b1 : Fin 2048 → EReal}
    (hn : ∀ k, IsFin (n k)) (hW : ∀ k j, IsFin (W1 k j)) (hb : ∀ j, IsFin (b1 j)) (j : Fin 2048) : IsFin (hid n W1 b1 j) :=
  ((IsFin.sum fun k => (hn k).mul (hW k j)).add (hb j)).max IsFin.zero

/-- The scores of a real hidden layer are real. -/
theorem IsFin.lgt {h : Fin 2048 → EReal} {W2 : Fin 2048 → Fin 64 → EReal} {b2 : Fin 64 → EReal}
    (hh : ∀ k, IsFin (h k)) (hW : ∀ k j, IsFin (W2 k j)) (hb : ∀ j, IsFin (b2 j)) (e : Fin 64) : IsFin (lgt h W2 b2 e) :=
  (IsFin.sum fun k => (hh k).mul (hW k e)).add (hb e)

/-- The softmax of finite logits is at least zero, so above −1. -/
theorem smax_gt {l : Fin 64 → EReal} (hl : ∀ e, IsFin (l e)) (e : Fin 64) : -1 < smax l e := by
  have hm : IsFin (TopK.mx l) := by obtain ⟨k, hk⟩ := TopK.exists_mx l; rw [← hk]; exact hl k
  have hx : ∀ e, ∃ r : ℝ, 0 < r ∧ Ideal.exp (l e - TopK.mx l) = (r : EReal) := fun e => by
    obtain ⟨r, hr⟩ := (hl e).sub hm
    exact ⟨Real.exp r, Real.exp_pos r, by rw [hr, Ideal.exp_coe]⟩
  choose r hr hre using hx
  have hs : ∑ e', Ideal.exp (l e' - TopK.mx l) = ((∑ e', r e' : ℝ) : EReal) := by
    rw [Finset.sum_congr rfl fun e' _ => hre e']
    exact (map_sum (⟨⟨Real.toEReal, EReal.coe_zero⟩, EReal.coe_add⟩ : ℝ →+ EReal) r Finset.univ).symm
  have hpos : (0 : ℝ) < ∑ e', r e' := Finset.sum_pos (fun e' _ => hr e') ⟨0, Finset.mem_univ 0⟩
  unfold smax
  rw [hs, hre e, Ideal.div_coe hpos.ne', ← EReal.coe_mul]
  have h1 : (-1 : EReal) = ((-1 : ℝ) : EReal) := by norm_num
  rw [h1, EReal.coe_lt_coe_iff]
  have : 0 < r e * (1 / ∑ e', r e') := mul_pos (hr e) (one_div_pos.mpr hpos)
  linarith

/-- On finite inputs every probability is above −1. -/
theorem prb_gt {x : Fin 2048 → EReal} {W1 : Fin 2048 → Fin 2048 → EReal} {b1 : Fin 2048 → EReal}
    {W2 : Fin 2048 → Fin 64 → EReal} {b2 : Fin 64 → EReal} {g b : Fin 2048 → EReal}
    (hx : ∀ k, IsFin (x k)) (hW1 : ∀ k j, IsFin (W1 k j)) (hb1 : ∀ k, IsFin (b1 k)) (hW2 : ∀ k j, IsFin (W2 k j))
    (hb2 : ∀ k, IsFin (b2 k)) (hg : ∀ k, IsFin (g k)) (hb : ∀ k, IsFin (b k)) (e : Fin 64) :
    -1 < prb x W1 b1 W2 b2 g b e :=
  smax_gt (IsFin.lgt (IsFin.hid (IsFin.nrm hx hg hb) hW1 hb1) hW2 hb2) e

/-- The number of tokens, 8192, as the kernel writes it. -/
def cT : EReal := Ideal.ofBits .f32 0x46000000#32
/-- The number of experts, 64, as the kernel writes it. -/
def cX : EReal := Ideal.ofBits .f32 0x42800000#32
/-- The small number added before the logarithm. -/
def cL : EReal := Ideal.ofBits .f32 0x3089705F#32

/-- The balance loss of the experts' column sums: the mean probability of each times the logarithm of its multiple by the number of
experts, added up. -/
def los (a : Fin 64 → EReal) : EReal := ∑ e, Ideal.div (a e) cT * Ideal.log (Ideal.div (a e) cT * cX + cL)

end Cert.Row

end
-- ==== Proof.Norm.lean ====
module

public import proofs.«01_k».proof.Proof.Row
public import proofs.«01_k».proof.Proof.Gen.KernelIdeal.Skeleton
public import Idealize.ShloMosaic.Lib.ValueLayout
public import Idealize.ShloMosaic.Lib.ValueLayoutCasts
public import Idealize.ShloMosaic.Lib.ValueIdx
public import Idealize.ShloMosaic.Lib.Pipeline.Value

@[expose] public section

set_option maxRecDepth 16384

noncomputable section

/-! The kernel's layer normalisation of a block of 1024 tokens, read at a token and a feature. -/

namespace Cert.KernelIdeal.Block

open Idealize.ShloMosaic Idealize.ShloMosaic.ValueIdx Cert.KernelIdeal.Gen Cert Cert.KernelIdeal

/-- A column broadcast along the rows reads the column at the row. -/
theorem broadcastTo_col {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A transposed array of lane sums, entry by entry. -/
theorem tr_lanes (V : FVec Ideal S1024x128 .f32) (h) (l : Fin 128) (r : Fin 1024) :
    transpose S128x1024 [1, 0] V h (ix2 l r) = V (ix2 r l) := transpose_ix2_apply _ _ _ _

/-- A transposed row, entry by entry. -/
theorem tr_col (V : FVec Ideal S1x1024 .f32) (h) (r : Fin 1024) (u : Fin 1) :
    transpose S1024x1 [1, 0] V h (ix2 r u) = V (ix2 u r) := transpose_ix2_apply _ _ _ _

/-- Sixteen terms added one after another from the left are their sum. -/
theorem sum16 (g : Fin 16 → EReal) :
    g 0 + g 1 + g 2 + g 3 + g 4 + g 5 + g 6 + g 7 + g 8 + g 9 + g 10 + g 11 + g 12 + g 13 + g 14 + g 15 = ∑ s, g s := by
  simp only [Fin.sum_univ_castSucc, Fin.sum_univ_zero, zero_add]
  rfl

/-- The sixteen lane chunks of each row added up, the result transposed. -/
theorem lanes_apply (x : FVec Ideal S1024x2048 .f32) (l : Fin 128) (r : Fin 1024) :
    k0_pay5 x (ix2 l r) = ∑ i : Fin 16, x (ix2 r ⟨128 * i.val + l.val, by have := i.isLt; have := l.isLt; omega⟩) := by
  unfold k0_pay5
  dsimp only
  rw [tr_lanes]
  simp only [k0_pay4, shapeCast_self, ValueIdx.addf_apply, slice2_axis1_eq, ← sum16]
  rfl

/-- The same of the squares of the centred features. -/
theorem sqLanes_apply (v1 : FVec Ideal S1024x2048 .f32) (v33 : FVec Ideal S128x1024 .f32)
    (v56 : FVec Ideal S8x1024 .f32) (l : Fin 128) (r : Fin 1024) :
    k0_pay8 v1 v33 v56 (ix2 l r) = ∑ i : Fin 16, k0_pay7 v1 v33 v56 (ix2 r ⟨128 * i.val + l.val, by have := i.isLt; have := l.isLt; omega⟩)
      * k0_pay7 v1 v33 v56 (ix2 r ⟨128 * i.val + l.val, by have := i.isLt; have := l.isLt; omega⟩) := by
  unfold k0_pay8
  dsimp only
  rw [tr_lanes]
  simp only [ValueIdx.addf_apply, ValueIdx.mulf_apply, slice2_axis1_eq, ← sum16]
  rfl

/-- Rows 0, 8, …, 120 of the transposed lanes, and those moved down by one to seven, added up to eight rows. -/
def rows8 (T : FVec Ideal S128x1024 .f32) (s : Fin 8) (r : Fin 1024) : EReal :=
  ∑ j : Fin 16, T (ix2 ⟨8 * j.val + s.val, by have := j.isLt; have := s.isLt; omega⟩ r)

/-- Eight terms added pairwise are their sum. -/
theorem sum8_tree (g : Fin 8 → EReal) :
    g 0 + g 4 + (g 2 + g 6) + (g 1 + g 5 + (g 3 + g 7)) = ∑ s, g s := by
  simp only [Fin.sum_univ_castSucc, Fin.sum_univ_zero, zero_add]
  show _ = g 0 + g 1 + g 2 + g 3 + g 4 + g 5 + g 6 + g 7
  ac_rfl

/-- A sum over 2048 features by lane chunk, row group and row. -/
theorem sum_2048 (f : Fin 2048 → EReal) :
    (∑ s : Fin 8, ∑ j : Fin 16, ∑ i : Fin 16, f ⟨128 * i.val + (8 * j.val + s.val), by
      have := i.isLt; have := j.isLt; have := s.isLt; omega⟩) = ∑ k, f k := by
  rw [← (finProdFinEquiv (m := 16) (n := 128)).sum_comp f, Fintype.sum_prod_type, Finset.sum_congr rfl fun s _ => Finset.sum_comm,
    Finset.sum_comm]
  refine Finset.sum_congr rfl fun i _ => ?_
  rw [← (finProdFinEquiv (m := 16) (n := 8)).sum_comp, Fintype.sum_prod_type, Finset.sum_comm]
  refine Finset.sum_congr rfl fun j _ => Finset.sum_congr rfl fun s _ => congrArg f (Fin.ext ?_)
  show 128 * i.val + (8 * j.val + s.val) = (s.val + 8 * j.val) + 128 * i.val
  omega

/-- The centred features of the block. -/
theorem ctr_apply (x : FVec Ideal S1024x2048 .f32) (r : Fin 1024) (k : Fin 2048) :
    k0_pay7 (F := Ideal) (k0_pay4 x) (k0_pay5 x) (k0_pay6 x) (ix2 r k) = Row.ctr (fun k => x (ix2 r k)) k := by
  have hs : ∀ (s : Fin 8), rows8 (k0_pay5 x) s r = ∑ j : Fin 16, ∑ i : Fin 16, x (ix2 r ⟨128 * i.val + (8 * j.val + s.val), by
      have := i.isLt; have := j.isLt; have := s.isLt; omega⟩) := fun s =>
    Finset.sum_congr rfl fun j _ => lanes_apply x _ r
  have ht := (sum8_tree (fun s => rows8 (k0_pay5 x) s r)).trans
    ((Finset.sum_congr rfl fun s _ => hs s).trans (sum_2048 fun k => x (ix2 r k)))
  simp only [rows8, ← sum16] at ht
  unfold Row.ctr Row.mean Row.cN
  rw [← ht]
  unfold k0_pay7 k0_pay6
  dsimp only
  rw [ValueIdx.subf_apply, broadcastTo_col, ValueIdx.divf_apply, tr_col]
  simp only [k0_pay4, shapeCast_self, ValueIdx.addf_apply, ValueIdx.subf_apply, ValueIdx.divf_apply, broadcastTo_col,
    slice2_axis0_eq, broadcast_apply]
  rfl

/-- The variance of a token's features, as the sum of the squares of the centred features over the sixteen lane chunks. -/
theorem var_tree (x : FVec Ideal S1024x2048 .f32) (r : Fin 1024) :
    ∑ s : Fin 8, rows8 (k0_pay8 (F := Ideal) (k0_pay4 x) (k0_pay5 x) (k0_pay6 x)) s r
      = ∑ k, Row.ctr (fun k => x (ix2 r k)) k * Row.ctr (fun k => x (ix2 r k)) k := by
  refine (Finset.sum_congr rfl fun s _ => Finset.sum_congr rfl fun j _ => sqLanes_apply _ _ _ _ r).trans ?_
  refine (sum_2048 fun k => k0_pay7 (F := Ideal) (k0_pay4 x) (k0_pay5 x) (k0_pay6 x) (ix2 r k)
    * k0_pay7 (F := Ideal) (k0_pay4 x) (k0_pay5 x) (k0_pay6 x) (ix2 r k)).trans ?_
  exact Finset.sum_congr rfl fun k _ => by rw [ctr_apply]

/-- The normalised features before the shift: the centred feature times the reciprocal deviation times the scale. -/
theorem scaled_apply (x : FVec Ideal S1024x2048 .f32) (g : FVec Ideal S1x2048 .f32) (r : Fin 1024) (k : Fin 2048) :
    k0_pay11 (F := Ideal) (k0_pay7 (k0_pay4 x) (k0_pay5 x) (k0_pay6 x)) (k0_pay8 (k0_pay4 x) (k0_pay5 x) (k0_pay6 x))
        (k0_pay9 (k0_pay4 x) (k0_pay5 x) (k0_pay6 x)) (k0_pay10 (k0_pay4 x) (k0_pay5 x) (k0_pay6 x)) g (ix2 r k)
      = Row.ctr (fun k => x (ix2 r k)) k
          * Ideal.div 1 (Ideal.sqrt (Row.var (fun k => x (ix2 r k)) + Row.cE)) * g (ix2 (0 : Fin 1) k) := by
  have ht := (sum8_tree (fun s => rows8 (k0_pay8 (F := Ideal) (k0_pay4 x) (k0_pay5 x) (k0_pay6 x)) s r)).trans (var_tree x r)
  simp only [rows8, ← sum16] at ht
  unfold Row.var Row.cN Row.cE
  rw [← ht, ← ctr_apply, ← Ideal.ofBits_one_f32]
  unfold k0_pay11 k0_pay9 k0_pay10
  generalize k0_pay7 (F := Ideal) (k0_pay4 x) (k0_pay5 x) (k0_pay6 x) = C
  generalize k0_pay8 (F := Ideal) (k0_pay4 x) (k0_pay5 x) (k0_pay6 x) = T
  rw [ValueIdx.mulf_apply, ValueIdx.mulf_apply, broadcastTo_col, broadcastTo_1b_ab_apply, shapeCast_self,
    ValueIdx.divf_apply]
  refine congrArg (fun z => C (ix2 r k) * Ideal.div _ (Ideal.sqrt z) * g (ix2 (0 : Fin 1) k)) ?_
  rw [ValueIdx.addf_apply, ValueIdx.divf_apply, tr_col]
  simp only [ValueIdx.addf_apply, slice2_axis0_eq, broadcast_apply]
  rfl

/-- The normalised features of the block: at a finite token they are the quotient's. -/
theorem nrm_apply (x : FVec Ideal S1024x2048 .f32) (g b : FVec Ideal S1x2048 .f32) (r : Fin 1024)
    (hx : ∀ k, Row.IsFin (x (ix2 r k))) (k : Fin 2048) :
    addf (k0_pay11 (F := Ideal) (k0_pay7 (k0_pay4 x) (k0_pay5 x) (k0_pay6 x)) (k0_pay8 (k0_pay4 x) (k0_pay5 x) (k0_pay6 x))
        (k0_pay9 (k0_pay4 x) (k0_pay5 x) (k0_pay6 x)) (k0_pay10 (k0_pay4 x) (k0_pay5 x) (k0_pay6 x)) g) (k0_pay12 b) (ix2 r k)
      = Row.nrm (fun k => x (ix2 r k)) (fun k => g (ix2 (0 : Fin 1) k)) (fun k => b (ix2 (0 : Fin 1) k)) k := by
  rw [ValueIdx.addf_apply, scaled_apply, ← Row.nrm_eq_mul hx]
  unfold k0_pay12
  rw [broadcastTo_1b_ab_apply, shapeCast_self]

end Cert.KernelIdeal.Block

end
-- ==== Proof.Prob.lean ====
module

public import proofs.«01_k».proof.Proof.Norm
public import Idealize.ShloMosaic.Lib.MatmulPlain

@[expose] public section

set_option maxRecDepth 16384

noncomputable section

/-! The kernel's router probabilities of a block of 1024 tokens, read at a token and an expert, and what the block adds to the
column sums of the probabilities. -/

namespace Cert.KernelIdeal.Block

open Idealize.ShloMosaic Idealize.ShloMosaic.ValueIdx Cert.KernelIdeal.Gen Cert Cert.KernelIdeal

/-- A row's index with the reduced expert put back. -/
theorem lift_row {n : Nat} (h : (⟨2, ![1024, n]⟩ : Shape).Reduces [1] S1024) (r : Fin 1024) (k : Fin n) :
    h.lift (ix1 r) k = ix2 r k := by
  funext a
  match a with
  | ⟨0, _⟩ => exact Fin.ext rfl
  | ⟨1, _⟩ => exact Fin.ext rfl

/-- The row maximum kept as a column. -/
theorem rowMax_apply (v : FVec Ideal S1024x64 .f32) (r : Fin 1024) :
    shapeCast S1024x1 (multiReduction .maximumf [1] S1024 v 0xFF800000#32 reduces_S1024x64_S1024 (.inl rfl) rfl)
      shapeCasts_S1024_S1024x1 (ix2 r (0 : Fin 1)) = TopK.mx fun k => v (ix2 r k) := by
  rw [shapeCast_a_a1_apply]
  refine (Ideal.multiReduction_maximumf_single _ _ _ _ _ _).trans ?_
  refine congrArg₂ (fun a f => (Finset.univ : Finset (Fin 64)).fold max a f) Row.neg_inf_eq (funext fun k => ?_)
  exact congrArg v (lift_row reduces_S1024x64_S1024 r k)

/-- The row sum kept as a column. -/
theorem rowSum_apply (v : FVec Ideal S1024x64 .f32) (r : Fin 1024) :
    shapeCast S1024x1 (multiReduction .add [1] S1024 v 0x00000000#32 reduces_S1024x64_S1024 (.inl rfl) rfl)
      shapeCasts_S1024_S1024x1 (ix2 r (0 : Fin 1)) = ∑ k, v (ix2 r k) := by
  rw [shapeCast_a_a1_apply]
  refine (Ideal.multiReduction_add_single _ _ _ _ _ _).trans ?_
  exact Finset.sum_congr rfl fun k _ => congrArg v (lift_row reduces_S1024x64_S1024 r k)

/-- The first layer of the router at a token and a hidden unit. -/
theorem dot1_apply (l : FVec Ideal S1024x2048 .bf16) (w : FVec Ideal S2048x2048 .bf16) (r : Fin 1024) (j : Fin 2048) :
    matmul (F := Ideal) dot_S1024x2048_S2048x2048_S1024x2048_1_0_0_1_n_n none l w (constant S1024x2048 .f32 0x00000000#32) (ix2 r j)
      = ∑ k, l (ix2 r k) * w (ix2 k j) :=
  (Ideal.matmul_plain_apply (M := 1024) (K := 2048) (N := 2048) none l w _ r j).trans (by
    rw [show (constant S1024x2048 .f32 0x00000000#32 : FVec Ideal S1024x2048 .f32) (ix2 r j) = 0 from Ideal.ofBits_zero_f32, zero_add])

/-- The second layer of the router at a token and an expert. -/
theorem dot2_apply (l : FVec Ideal S1024x2048 .bf16) (w : FVec Ideal S2048x64 .bf16) (r : Fin 1024) (e : Fin 64) :
    matmul (F := Ideal) dot_S1024x2048_S2048x64_S1024x64_1_0_0_1_n_n none l w (constant S1024x64 .f32 0x00000000#32) (ix2 r e)
      = ∑ k, l (ix2 r k) * w (ix2 k e) :=
  (Ideal.matmul_plain_apply (M := 1024) (K := 2048) (N := 64) none l w _ r e).trans (by
    rw [show (constant S1024x64 .f32 0x00000000#32 : FVec Ideal S1024x64 .f32) (ix2 r e) = 0 from Ideal.ofBits_zero_f32, zero_add])

/-- The logits of the block from its normalised features. -/
def logits (n : FVec Ideal S1024x2048 .f32) (w1 : FVec Ideal S2048x2048 .bf16) (b1 : FVec Ideal S1x2048 .f32)
    (w2 : FVec Ideal S2048x64 .bf16) (b2 : FVec Ideal S1x64 .f32) : FVec Ideal S1024x64 .f32 :=
  addf (matmul (F := Ideal) dot_S1024x2048_S2048x64_S1024x64_1_0_0_1_n_n none
    (truncf .bf16 (maximumf (addf (matmul (F := Ideal) dot_S1024x2048_S2048x2048_S1024x2048_1_0_0_1_n_n none
        (truncf .bf16 n bitsLt_bf16_f32) (shapeCast S2048x2048 w1 shapeCasts_S2048x2048_S2048x2048) (constant S1024x2048 .f32 0x00000000#32))
      (broadcastTo S1024x2048 (shapeCast S1x2048 b1 shapeCasts_S1x2048_S1x2048) broadcasts_S1x2048_S1024x2048))
      (broadcast S1024x2048 (Scalar.ofBits (F := Ideal) .f32 0x00000000#32))) bitsLt_bf16_f32)
    (shapeCast S2048x64 w2 shapeCasts_S2048x64_S2048x64) (constant S1024x64 .f32 0x00000000#32))
    (broadcastTo S1024x64 (shapeCast S1x64 b2 shapeCasts_S1x64_S1x64) broadcasts_S1x64_S1024x64)

/-- The logits of a token are the two layers applied to its normalised features. -/
theorem logits_apply (n : FVec Ideal S1024x2048 .f32) (w1 : FVec Ideal S2048x2048 .bf16) (b1 : FVec Ideal S1x2048 .f32)
    (w2 : FVec Ideal S2048x64 .bf16) (b2 : FVec Ideal S1x64 .f32) (r : Fin 1024) (e : Fin 64) :
    logits n w1 b1 w2 b2 (ix2 r e) = Row.lgt (Row.hid (fun k => n (ix2 r k)) (fun k j => w1 (ix2 k j)) fun j => b1 (ix2 (0 : Fin 1) j))
      (fun j e => w2 (ix2 j e)) (fun e => b2 (ix2 (0 : Fin 1) e)) e := by
  unfold logits Row.lgt Row.hid
  rw [ValueIdx.addf_apply, dot2_apply, broadcastTo_1b_ab_apply, shapeCast_self w2, shapeCast_self b2]
  refine congrArg (· + b2 (ix2 (0 : Fin 1) e)) (Finset.sum_congr rfl fun j _ => congrArg (· * w2 (ix2 j e)) ?_)
  refine congrArg₂ max ?_ Ideal.ofBits_zero_f32
  rw [ValueIdx.addf_apply, dot1_apply, broadcastTo_1b_ab_apply, shapeCast_self w1, shapeCast_self b1]
  rfl

/-- The probabilities of a token are the softmax of its logits. -/
theorem soft_apply (n : FVec Ideal S1024x2048 .f32) (v165 v168 : FVec Ideal S1024x2048 .f32) (hn : addf v165 v168 = n)
    (w1 : FVec Ideal S2048x2048 .bf16) (b1 : FVec Ideal S1x2048 .f32)
    (w2 : FVec Ideal S2048x64 .bf16) (b2 : FVec Ideal S1x64 .f32) (r : Fin 1024) (e : Fin 64) :
    k0_pay13 (F := Ideal) v165 v168 w1 b1 w2 b2 (ix2 r e) = Row.smax (fun e => logits n w1 b1 w2 b2 (ix2 r e)) e := by
  subst hn
  unfold k0_pay13
  change divf (F := Ideal) (exp (subf (logits (addf v165 v168) w1 b1 w2 b2) (broadcastTo S1024x64 (shapeCast S1024x1
    (multiReduction .maximumf [1] S1024 (logits (addf v165 v168) w1 b1 w2 b2) 0xFF800000#32 reduces_S1024x64_S1024 (.inl rfl) rfl)
      shapeCasts_S1024_S1024x1) broadcasts_S1024x1_S1024x64)))
    (broadcastTo S1024x64 (shapeCast S1024x1 (multiReduction .add [1] S1024 (exp (subf (logits (addf v165 v168) w1 b1 w2 b2)
      (broadcastTo S1024x64 (shapeCast S1024x1
    (multiReduction .maximumf [1] S1024 (logits (addf v165 v168) w1 b1 w2 b2) 0xFF800000#32 reduces_S1024x64_S1024 (.inl rfl) rfl)
      shapeCasts_S1024_S1024x1) broadcasts_S1024x1_S1024x64))) 0x00000000#32 reduces_S1024x64_S1024 (.inl rfl) rfl)
      shapeCasts_S1024_S1024x1) broadcasts_S1024x1_S1024x64) (ix2 r e) = _
  have he : ∀ e, exp (F := Ideal) (subf (logits (addf v165 v168) w1 b1 w2 b2) (broadcastTo S1024x64 (shapeCast S1024x1
    (multiReduction .maximumf [1] S1024 (logits (addf v165 v168) w1 b1 w2 b2) 0xFF800000#32 reduces_S1024x64_S1024 (.inl rfl) rfl)
      shapeCasts_S1024_S1024x1) broadcasts_S1024x1_S1024x64)) (ix2 r e)
      = Ideal.exp (logits (addf v165 v168) w1 b1 w2 b2 (ix2 r e) - TopK.mx fun e => logits (addf v165 v168) w1 b1 w2 b2 (ix2 r e)) :=
    fun e => by
      refine congrArg Ideal.exp ?_
      rw [ValueIdx.subf_apply, broadcastTo_col, rowMax_apply]
  rw [ValueIdx.divf_apply, broadcastTo_col, rowSum_apply]
  unfold Row.smax
  rw [he]
  exact congrArg _ (Finset.sum_congr rfl fun e _ => he e)

/-- The block's probabilities from its seven operand blocks. -/
def probs (x : FVec Ideal S1024x2048 .f32) (w1 : FVec Ideal S2048x2048 .bf16) (b1 : FVec Ideal S1x2048 .f32)
    (w2 : FVec Ideal S2048x64 .bf16) (b2 : FVec Ideal S1x64 .f32) (g b : FVec Ideal S1x2048 .f32) : FVec Ideal S1024x64 .f32 :=
  k0_pay13 (F := Ideal) (k0_pay11 (k0_pay7 (k0_pay4 x) (k0_pay5 x) (k0_pay6 x)) (k0_pay8 (k0_pay4 x) (k0_pay5 x) (k0_pay6 x))
    (k0_pay9 (k0_pay4 x) (k0_pay5 x) (k0_pay6 x)) (k0_pay10 (k0_pay4 x) (k0_pay5 x) (k0_pay6 x)) g) (k0_pay12 b) w1 b1 w2 b2

/-- A finite token's probabilities are the row's. -/
theorem probs_apply (x : FVec Ideal S1024x2048 .f32) (w1 : FVec Ideal S2048x2048 .bf16) (b1 : FVec Ideal S1x2048 .f32)
    (w2 : FVec Ideal S2048x64 .bf16) (b2 : FVec Ideal S1x64 .f32) (g b : FVec Ideal S1x2048 .f32) (r : Fin 1024)
    (hx : ∀ k, Row.IsFin (x (ix2 r k))) (e : Fin 64) :
    probs x w1 b1 w2 b2 g b (ix2 r e)
      = Row.prb (fun k => x (ix2 r k)) (fun k j => w1 (ix2 k j)) (fun j => b1 (ix2 (0 : Fin 1) j)) (fun j e => w2 (ix2 j e))
          (fun e => b2 (ix2 (0 : Fin 1) e)) (fun k => g (ix2 (0 : Fin 1) k)) (fun k => b (ix2 (0 : Fin 1) k)) e := by
  unfold probs Row.prb
  rw [soft_apply _ _ _ rfl]
  refine congrArg (fun l => Row.smax l e) (funext fun e => ?_)
  rw [logits_apply]
  exact congrArg (fun n => Row.lgt (Row.hid n _ _) _ _ e) (funext fun k => nrm_apply x g b r hx k)

/-- The accumulator after a block: what it held plus the block's probabilities summed over its tokens. -/
theorem acc_apply (v165 v168 : FVec Ideal S1024x2048 .f32)
    (w1 : FVec Ideal S2048x2048 .bf16) (b1 : FVec Ideal S1x2048 .f32)
    (w2 : FVec Ideal S2048x64 .bf16) (b2 : FVec Ideal S1x64 .f32) (a : FVec Ideal S1x64 .f32) (e : Fin 64) :
    k0_pay15 (F := Ideal) v165 v168 w1 b1 w2 b2 a (ix2 (0 : Fin 1) e)
      = a (ix2 (0 : Fin 1) e) + ∑ r : Fin 1024, k0_pay13 (F := Ideal) v165 v168 w1 b1 w2 b2 (ix2 r e) := by
  unfold k0_pay15
  dsimp only
  rw [shapeCast_self, ValueIdx.addf_apply, shapeCast_a_1a_apply]
  refine congrArg (a (ix2 (0 : Fin 1) e) + ·) ((Ideal.multiReduction_add_single _ _ _ _ _ _).trans (Finset.sum_congr rfl fun r _ => congrArg _ ?_))
  funext ax
  match ax with
  | ⟨0, _⟩ => exact Fin.ext rfl
  | ⟨1, _⟩ => exact Fin.ext rfl

/-- The accumulator starts at zero. -/
theorem zero_apply (e : Fin 64) : k0_pay14 (F := Ideal) (ix2 (0 : Fin 1) e) = 0 := by
  unfold k0_pay14
  rw [shapeCast_self]
  exact Ideal.ofBits_zero_f32

end Cert.KernelIdeal.Block

end
-- ==== Proof.Rounds.lean ====
module

public import proofs.«01_k».proof.Proof.Prob
public import Idealize.ShloMosaic.PureOps.Reduce

@[expose] public section

set_option maxRecDepth 16384

noncomputable section

/-! The kernel's eight rounds of taking the largest remaining probability, and what it stores from them. -/

namespace Cert.KernelIdeal.Block

open Idealize.ShloMosaic Idealize.ShloMosaic.ValueIdx Cert.KernelIdeal.Gen Cert Cert.KernelIdeal

/-- The experts' numbers along each row. -/
def ids : IVec S1024x64 32 := iota .tc S1024x64 32 [1] iota_S1024x64_d1_w32

/-- Each row's maximum as a column. -/
def mxV (c : FVec Ideal S1024x64 .f32) : FVec Ideal S1024x1 .f32 :=
  shapeCast S1024x1 (multiReduction .maximumf [1] S1024 c 0xFF800000#32 reduces_S1024x64_S1024 (.inl rfl) rfl) shapeCasts_S1024_S1024x1

/-- The least expert number at which each row has its maximum, as a column. -/
def amV (c : FVec Ideal S1024x64 .f32) : IVec S1024x1 32 :=
  shapeCast S1024x1 (multiReductionI .minsi [1] S1024 (select (cmpf .oeq c (broadcastTo S1024x64 (mxV c) broadcasts_S1024x1_S1024x64))
    ids (broadcast S1024x64 64#32)) 2147483647#32 reduces_S1024x64_S1024 rfl) shapeCasts_S1024_S1024x1

/-- Each row with its chosen entry replaced by −1. -/
def nxV (c : FVec Ideal S1024x64 .f32) : FVec Ideal S1024x64 .f32 :=
  select (cmpi .eq ids (broadcastTo S1024x64 (amV c) broadcasts_S1024x1_S1024x64))
    (broadcast S1024x64 (Scalar.ofBits (F := Ideal) .f32 0xBF800000#32)) c

/-- What is left after a number of rounds. -/
def curV (p : FVec Ideal S1024x64 .f32) : Nat → FVec Ideal S1024x64 .f32
  | 0 => p
  | n + 1 => nxV (curV p n)

/-- The array of expert numbers at a row and an expert is the expert's number. -/
theorem ids_apply (r : Fin 1024) (k : Fin 64) : ids (ix2 r k) = BitVec.ofNat 32 k.val := iota_single_apply _ _ _ _ _ _

/-- The column of maxima at a row is the greatest entry of the row. -/
theorem mxV_apply (c : FVec Ideal S1024x64 .f32) (r : Fin 1024) : mxV c (ix2 r (0 : Fin 1)) = TopK.mx fun k => c (ix2 r k) :=
  rowMax_apply c r

/-- The column of positions at a row is the least position of the greatest entry of the row. -/
theorem amV_apply (c : FVec Ideal S1024x64 .f32) (r : Fin 1024) : amV c (ix2 r (0 : Fin 1)) = TopK.am fun k => c (ix2 r k) := by
  unfold amV
  rw [shapeCast_a_a1_apply]
  refine (multiReductionI_eq_fold _ _ _ _ _ _).trans ((Shape.Reduces.fold_filter_drop_single _ _ _ _ _).trans ?_)
  refine congrArg (fun f => (Finset.univ : Finset (Fin 64)).fold IntOp.minsi 2147483647#32 f) (funext fun (k : Fin 64) => ?_)
  refine (congrArg (select (cmpf .oeq c (broadcastTo S1024x64 (mxV c) broadcasts_S1024x1_S1024x64)) ids (broadcast S1024x64 64#32))
    (lift_row reduces_S1024x64_S1024 r k)).trans ?_
  rw [select_apply, cmpf_apply, broadcastTo_col, mxV_apply, ids_apply]
  show Scalar.select (BitVec.ofBool (decide (c (ix2 r k) = TopK.mx fun k => c (ix2 r k)))) (BitVec.ofNat 32 k.val) 64#32 = _
  by_cases h : c (ix2 r k) = TopK.mx fun k => c (ix2 r k)
  · rw [if_pos h, decide_eq_true h]
    rfl
  · rw [if_neg h, decide_eq_false h]
    rfl

/-- A round at a row puts −1 at the chosen position and leaves the other entries. -/
theorem nxV_apply (c : FVec Ideal S1024x64 .f32) (r : Fin 1024) (k : Fin 64) : nxV c (ix2 r k) = TopK.nx (fun k => c (ix2 r k)) k := by
  unfold nxV TopK.nx
  rw [select_apply, show cmpi .eq ids (broadcastTo S1024x64 (amV c) broadcasts_S1024x1_S1024x64) (ix2 r k)
    = IntOp.cmpi .eq (ids (ix2 r k)) (broadcastTo S1024x64 (amV c) broadcasts_S1024x1_S1024x64 (ix2 r k)) from rfl,
    broadcastTo_col, amV_apply, ids_apply]
  refine Eq.trans ?_ (congrArg (fun z => if BitVec.ofNat 32 k.val = TopK.am (fun k => c (ix2 r k)) then z else c (ix2 r k)) Row.neg_one_eq)
  by_cases h : BitVec.ofNat 32 k.val = TopK.am (fun k => c (ix2 r k))
  · rw [if_pos h, h]
    simp [IntOp.cmpi, Scalar.select]
    rfl
  · rw [if_neg h]
    have hb : (BitVec.ofNat 32 k.val == TopK.am fun k => c (ix2 r k)) = false := beq_eq_false_iff_ne.mpr h
    simp [IntOp.cmpi, Scalar.select, hb]

/-- After `n` rounds each row is what the row's own rounds leave. -/
theorem curV_apply (p : FVec Ideal S1024x64 .f32) (r : Fin 1024) (n : Nat) (k : Fin 64) :
    curV p n (ix2 r k) = TopK.cur (fun k => p (ix2 r k)) n k := by
  induction n generalizing k with
  | zero => rfl
  | succ n ih =>
    refine (nxV_apply _ r k).trans ?_
    exact congrArg (fun f => TopK.nx f k) (funext ih)

/-- The value a round takes is the chosen expert's probability. -/
theorem mxV_cur (p : FVec Ideal S1024x64 .f32) (r : Fin 1024) (hp : ∀ k, -1 < p (ix2 r k)) (n : Nat) (hn : n < 64) :
    mxV (curV p n) (ix2 r (0 : Fin 1)) = p (ix2 r (TopK.sel (fun k => p (ix2 r k)) n)) := by
  rw [mxV_apply, show (fun k => curV p n (ix2 r k)) = TopK.cur (fun k => p (ix2 r k)) n from funext fun k => curV_apply p r n k]
  exact TopK.mx_cur _ hp n hn

/-- The number a round takes is the chosen expert's. -/
theorem amV_cur (p : FVec Ideal S1024x64 .f32) (r : Fin 1024) (n : Nat) :
    amV (curV p n) (ix2 r (0 : Fin 1)) = BitVec.ofNat 32 (TopK.sel (fun k => p (ix2 r k)) n).val := by
  rw [amV_apply, show (fun k => curV p n (ix2 r k)) = TopK.cur (fun k => p (ix2 r k)) n from funext fun k => curV_apply p r n k]
  exact TopK.am_eq _

/-- Eight columns side by side read the column. -/
theorem concat8 {α : Type} (v : Fin 8 → S1024x1.Idx → α) (h) (r : Fin 1024) (i : Fin 8) :
    concatenate S1024x8 1 [⟨S1024x1, v 0⟩, ⟨S1024x1, v 1⟩, ⟨S1024x1, v 2⟩, ⟨S1024x1, v 3⟩, ⟨S1024x1, v 4⟩, ⟨S1024x1, v 5⟩, ⟨S1024x1, v 6⟩,
      ⟨S1024x1, v 7⟩] h (ix2 r i) = v i (ix2 r (0 : Fin 1)) :=
  concatenate_ofFn_unit_apply (t := S1024x8) (s₁ := S1024x1) (1 : Fin 2) v h rfl rfl (ix2 r i) i rfl (ix2 r (0 : Fin 1)) fun b hb => by
    match b, hb with
    | ⟨0, _⟩, _ => rfl
    | ⟨1, _⟩, hb => exact absurd rfl hb

/-- The numbers the block stores. -/
def idxOut (p : FVec Ideal S1024x64 .f32) : IVec S1024x8 32 :=
  k0_pay1 ids (k0_pay17 p) (k0_pay20 p) (k0_pay23 p) (k0_pay26 p) (k0_pay29 ids (k0_pay24 p) (k0_pay26 p))
    (k0_pay32 ids (k0_pay24 p) (k0_pay26 p)) (k0_pay35 ids (k0_pay24 p) (k0_pay26 p)) (k0_pay38 ids (k0_pay24 p) (k0_pay26 p)) k0_pay39

/-- The values the block stores. -/
def valOut (p : FVec Ideal S1024x64 .f32) : FVec Ideal S1024x8 .f32 :=
  k0_pay2 (k0_pay16 p) (k0_pay19 p) (k0_pay22 p) (k0_pay25 p) (k0_pay28 ids (k0_pay24 p) (k0_pay26 p))
    (k0_pay31 ids (k0_pay24 p) (k0_pay26 p)) (k0_pay34 ids (k0_pay24 p) (k0_pay26 p)) (k0_pay37 ids (k0_pay24 p) (k0_pay26 p))

/-- The stored number in place `i` is the expert chosen in round `i`. -/
theorem idxOut_apply (p : FVec Ideal S1024x64 .f32) (r : Fin 1024) (i : Fin 8) :
    idxOut p (ix2 r i) = BitVec.ofNat 32 (TopK.sel (fun k => p (ix2 r k)) i.val).val :=
  (concat8 (fun i : Fin 8 => amV (curV p i.val))
    concatenates_S1024x1_S1024x1_S1024x1_S1024x1_S1024x1_S1024x1_S1024x1_S1024x1_S1024x8_d1 r i).trans (amV_cur p r i.val)

/-- The stored value in place `i` is the probability of the expert chosen in round `i` over the sum of the eight. -/
theorem valOut_apply (p : FVec Ideal S1024x64 .f32) (r : Fin 1024) (hp : ∀ k, -1 < p (ix2 r k)) (i : Fin 8) :
    valOut p (ix2 r i) = Ideal.div (p (ix2 r (TopK.sel (fun k => p (ix2 r k)) i.val)))
      (∑ j : Fin 8, p (ix2 r (TopK.sel (fun k => p (ix2 r k)) j.val))) := by
  have hc : ∀ i : Fin 8, mxV (curV p i.val) (ix2 r (0 : Fin 1)) = p (ix2 r (TopK.sel (fun k => p (ix2 r k)) i.val)) := fun i =>
    mxV_cur p r hp i.val (by have := i.isLt; omega)
  unfold valOut k0_pay2
  dsimp only
  rw [ValueIdx.divf_apply, broadcastTo_col, shapeCast_a_a1_apply]
  refine congrArg₂ Ideal.div ((concat8 (fun i : Fin 8 => mxV (curV p i.val))
    concatenates_S1024x1_S1024x1_S1024x1_S1024x1_S1024x1_S1024x1_S1024x1_S1024x1_S1024x8_d1 r i).trans (hc i)) ?_
  refine (Ideal.multiReduction_add_single _ _ _ _ _ _).trans (Finset.sum_congr rfl fun j _ => ?_)
  refine (congrArg _ (lift_row reduces_S1024x8_S1024 r j)).trans ?_
  exact (concat8 (fun i : Fin 8 => mxV (curV p i.val))
    concatenates_S1024x1_S1024x1_S1024x1_S1024x1_S1024x1_S1024x1_S1024x1_S1024x1_S1024x8_d1 r j).trans (hc j)

/-- The 64 experts as the indices of a 1×1×64 array. -/
def loneRow : Fin 64 ≃ S1x1x64.Idx where
  toFun e := ix3 (0 : Fin 1) (0 : Fin 1) e
  invFun i := (show Fin 64 from i (2 : Fin 3))
  left_inv _ := rfl
  right_inv i := by
    funext ax
    match ax with
    | ⟨0, _⟩ => exact Fin.ext (by have := (i (0 : Fin 3)).isLt; change _ < 1 at this; change 0 = (i (0 : Fin 3)).val; omega)
    | ⟨1, _⟩ => exact Fin.ext (by have := (i (1 : Fin 3)).isLt; change _ < 1 at this; change 0 = (i (1 : Fin 3)).val; omega)
    | ⟨2, _⟩ => rfl

/-- The loss of the accumulated column sums. -/
theorem los_apply (a : FVec Ideal S1x64 .f32) :
    k0_pay3 (F := Ideal) a (ix2 (0 : Fin 1) (0 : Fin 1)) = Row.los fun e => a (ix2 (0 : Fin 1) e) := by
  unfold k0_pay3
  dsimp only
  refine (shapeCast_apply _ shapeCasts_S1_S1x1x1 _ (ix1 (0 : Fin 1)) rfl).trans ?_
  refine (Ideal.multiReduction_add_total _ _ _ (fun b => by match b with | ⟨0, _⟩ => rfl) _ _ _).trans ?_
  rw [← loneRow.sum_comp]
  refine Finset.sum_congr rfl fun e _ => ?_
  exact shapeCast_ab_1ab_apply _ _ _ _ _

end Cert.KernelIdeal.Block

end
-- ==== Proof.Pieces.lean ====
module

public import proofs.«01_k».proof.Proof.Rounds
public import proofs.«01_k».proof.Proof.Gen.KernelIdeal.Frame
public import Idealize.ShloMosaic.Lib.Pipeline.ValueKit

@[expose] public section

set_option maxRecDepth 16384

noncomputable section

/-! What a grid point leaves in the three output blocks and in the accumulator it carries to the next point. -/

namespace Cert.KernelIdeal.Block

open Idealize.ShloMosaic Idealize.ShloMosaic.ValueIdx Cert.KernelIdeal.Gen Cert Cert.KernelIdeal

variable (m : (ℓ : Loc nD τ sig) → Buf (Elt Ideal) ℓ)

/-- The probabilities of the block of tokens at a grid point. -/
def P (c : Dev nD) (t : Fin cfg0.N) : FVec Ideal S1024x64 .f32 :=
  probs (iblk m c 0 t) (iblk m c 1 t) (iblk m c 2 t) (iblk m c 3 t) (iblk m c 4 t) (iblk m c 5 t) (iblk m c 6 t)

/-- The accumulator after a block over the accumulator before it. -/
def stepA (x : FVec Ideal S1024x2048 .f32) (w1 : FVec Ideal S2048x2048 .bf16) (b1 : FVec Ideal S1x2048 .f32)
    (w2 : FVec Ideal S2048x64 .bf16) (b2 : FVec Ideal S1x64 .f32) (g b : FVec Ideal S1x2048 .f32) (a : FVec Ideal S1x64 .f32) :
    FVec Ideal S1x64 .f32 :=
  k0_pay15 (F := Ideal) (k0_pay11 (k0_pay7 (k0_pay4 x) (k0_pay5 x) (k0_pay6 x)) (k0_pay8 (k0_pay4 x) (k0_pay5 x) (k0_pay6 x))
    (k0_pay9 (k0_pay4 x) (k0_pay5 x) (k0_pay6 x)) (k0_pay10 (k0_pay4 x) (k0_pay5 x) (k0_pay6 x)) g) (k0_pay12 b) w1 b1 w2 b2 a

/-- The accumulator after the block of tokens at a grid point. -/
def stepP (c : Dev nD) (t : Fin cfg0.N) (a : FVec Ideal S1x64 .f32) : FVec Ideal S1x64 .f32 :=
  stepA (iblk m c 0 t) (iblk m c 1 t) (iblk m c 2 t) (iblk m c 3 t) (iblk m c 4 t) (iblk m c 5 t) (iblk m c 6 t) a

/-- A step adds the block's probabilities, summed over its tokens. -/
theorem stepP_apply (c : Dev nD) (t : Fin cfg0.N) (a : FVec Ideal S1x64 .f32) (e : Fin 64) :
    stepP m c t a (ValueIdx.ix2 (0 : Fin 1) e) = a (ValueIdx.ix2 (0 : Fin 1) e) + ∑ r : Fin 1024, P m c t (ValueIdx.ix2 r e) := by
  unfold stepP stepA P probs
  exact acc_apply _ _ _ _ _ _ _ _

/-- At the first point the body leaves the numbers of the chosen experts. -/
theorem outs_A_idx (c : Dev nD) (t : Fin cfg0.N) (h0 : t.val % 8 = 0) (h1 : ¬t.val % 8 = 7) :
    (outsAt0 m c t.val t.isLt).1 = idxOut (P m c t) := by
  rw [outsAt0_A m c t h0 h1]
  dsimp only
  frame_out
  rfl

/-- At the first point the body leaves the values of the chosen experts. -/
theorem outs_A_val (c : Dev nD) (t : Fin cfg0.N) (h0 : t.val % 8 = 0) (h1 : ¬t.val % 8 = 7) :
    (outsAt0 m c t.val t.isLt).2.1 = valOut (P m c t) := by
  rw [outsAt0_A m c t h0 h1]
  dsimp only
  frame_out
  rfl

/-- At the first point the body leaves the accumulator a step further. -/
theorem outs_A_acc (c : Dev nD) (t : Fin cfg0.N) (h0 : t.val % 8 = 0) (h1 : ¬t.val % 8 = 7) :
    (outsAt0 m c t.val t.isLt).2.2.2 = stepP m c t (k0_pay14 (F := Ideal)) := by
  rw [outsAt0_A m c t h0 h1]
  dsimp only
  frame_out
  rfl

/-- At a middle point the body leaves the numbers of the chosen experts. -/
theorem outs_B_idx (c : Dev nD) (t : Fin cfg0.N) (h0 : ¬t.val % 8 = 0) (h1 : ¬t.val % 8 = 7) :
    (outsAt0 m c t.val t.isLt).1 = idxOut (P m c t) := by
  rw [outsAt0_B m c t h0 h1]
  dsimp only
  frame_out
  rfl

/-- At a middle point the body leaves the values of the chosen experts. -/
theorem outs_B_val (c : Dev nD) (t : Fin cfg0.N) (h0 : ¬t.val % 8 = 0) (h1 : ¬t.val % 8 = 7) :
    (outsAt0 m c t.val t.isLt).2.1 = valOut (P m c t) := by
  rw [outsAt0_B m c t h0 h1]
  dsimp only
  frame_out
  rfl

/-- At a middle point the body leaves the accumulator a step further. -/
theorem outs_B_acc (c : Dev nD) (t : Fin cfg0.N) (h0 : ¬t.val % 8 = 0) (h1 : ¬t.val % 8 = 7) :
    (outsAt0 m c t.val t.isLt).2.2.2 = stepP m c t ((outsAt0 m c (t.val - 1) (Nat.lt_of_le_of_lt (Nat.sub_le _ _) t.isLt)).2.2.2) := by
  rw [outsAt0_B m c t h0 h1]
  dsimp only
  frame_out
  exact congrArg (stepP m c t) ((Memref.isWhole_whole cc0_scratch0).read_unread _)

/-- At the last point the body leaves the numbers of the chosen experts. -/
theorem outs_C_idx (c : Dev nD) (t : Fin cfg0.N) (h0 : ¬t.val % 8 = 0) (h1 : t.val % 8 = 7) :
    (outsAt0 m c t.val t.isLt).1 = idxOut (P m c t) := by
  rw [outsAt0_C m c t h0 h1]
  dsimp only
  frame_out
  rfl

/-- At the last point the body leaves the values of the chosen experts. -/
theorem outs_C_val (c : Dev nD) (t : Fin cfg0.N) (h0 : ¬t.val % 8 = 0) (h1 : t.val % 8 = 7) :
    (outsAt0 m c t.val t.isLt).2.1 = valOut (P m c t) := by
  rw [outsAt0_C m c t h0 h1]
  dsimp only
  frame_out
  rfl

/-- At the last point the body leaves the accumulator a step further. -/
theorem outs_C_acc (c : Dev nD) (t : Fin cfg0.N) (h0 : ¬t.val % 8 = 0) (h1 : t.val % 8 = 7) :
    (outsAt0 m c t.val t.isLt).2.2.2 = stepP m c t ((outsAt0 m c (t.val - 1) (Nat.lt_of_le_of_lt (Nat.sub_le _ _) t.isLt)).2.2.2) := by
  rw [outsAt0_C m c t h0 h1]
  dsimp only
  frame_out
  exact congrArg (stepP m c t) ((Memref.isWhole_whole cc0_scratch0).read_unread _)

/-- At the last point the body leaves the loss of the accumulator a step further. -/
theorem outs_C_los (c : Dev nD) (t : Fin cfg0.N) (h0 : ¬t.val % 8 = 0) (h1 : t.val % 8 = 7) :
    (outsAt0 m c t.val t.isLt).2.2.1 = k0_pay3 (F := Ideal) (stepP m c t ((outsAt0 m c (t.val - 1) (Nat.lt_of_le_of_lt (Nat.sub_le _ _) t.isLt)).2.2.2)) := by
  rw [outsAt0_C m c t h0 h1]
  dsimp only
  frame_out
  exact congrArg (fun a => k0_pay3 (F := Ideal) (stepP m c t a)) ((Memref.isWhole_whole cc0_scratch0).read_unread _)

end Cert.KernelIdeal.Block

end
-- ==== Proof.Spec.lean ====
module

public import proofs.«01_k».proof.Proof.Row
public import Idealize.ShloMosaic.Lib.ValueIdxCore

@[expose] public section

set_option maxRecDepth 16384

noncomputable section

/-! The three results as functions of the seven arguments, the form both programs are brought to. -/

namespace Cert.Spec

open Idealize.ShloMosaic Idealize.ShloMosaic.ValueIdx Cert

variable (x0 : FVec Ideal ⟨3, ![4, 2048, 2048]⟩ .f32) (x1 : FVec Ideal ⟨2, ![2048, 2048]⟩ .f32) (x2 : FVec Ideal ⟨1, ![2048]⟩ .f32)
  (x3 : FVec Ideal ⟨2, ![2048, 64]⟩ .f32) (x4 : FVec Ideal ⟨1, ![64]⟩ .f32) (x5 x6 : FVec Ideal ⟨1, ![2048]⟩ .f32)

/-- Every entry of every argument is a real number. -/
def Fin7 : Prop :=
  (∀ i, Row.IsFin (x0 i)) ∧ (∀ i, Row.IsFin (x1 i)) ∧ (∀ i, Row.IsFin (x2 i)) ∧ (∀ i, Row.IsFin (x3 i)) ∧ (∀ i, Row.IsFin (x4 i))
    ∧ (∀ i, Row.IsFin (x5 i)) ∧ ∀ i, Row.IsFin (x6 i)

/-- The probabilities of the experts at a token. -/
def pr (b : Fin 4) (s : Fin 2048) : Fin 64 → EReal :=
  Row.prb (fun k => x0 (ix3 b s k)) (fun k j => x1 (ix2 k j)) (fun j => x2 (ix1 j)) (fun j e => x3 (ix2 j e)) (fun e => x4 (ix1 e))
    (fun k => x5 (ix1 k)) (fun k => x6 (ix1 k))

/-- The number of the expert chosen in round `i` at a token. -/
def idx (b : Fin 4) (s : Fin 2048) (i : Fin 8) : BitVec 32 :=
  BitVec.ofNat 32 (TopK.sel (pr x0 x1 x2 x3 x4 x5 x6 b s) i.val).val

/-- The probability of the expert chosen in round `i` at a token, over the sum of the eight chosen. -/
def val (b : Fin 4) (s : Fin 2048) (i : Fin 8) : EReal :=
  Ideal.div (pr x0 x1 x2 x3 x4 x5 x6 b s (TopK.sel (pr x0 x1 x2 x3 x4 x5 x6 b s) i.val))
    (∑ j : Fin 8, pr x0 x1 x2 x3 x4 x5 x6 b s (TopK.sel (pr x0 x1 x2 x3 x4 x5 x6 b s) j.val))

/-- The balance loss of all the tokens. -/
def los : EReal := Row.los fun e => ∑ b : Fin 4, ∑ s : Fin 2048, pr x0 x1 x2 x3 x4 x5 x6 b s e

variable {x0 x1 x2 x3 x4 x5 x6}

/-- On finite arguments every probability is above −1. -/
theorem pr_gt (h : Fin7 x0 x1 x2 x3 x4 x5 x6) (b : Fin 4) (s : Fin 2048) (e : Fin 64) : -1 < pr x0 x1 x2 x3 x4 x5 x6 b s e :=
  Row.prb_gt (fun _ => h.1 _) (fun _ _ => h.2.1 _) (fun _ => h.2.2.1 _) (fun _ _ => h.2.2.2.1 _) (fun _ => h.2.2.2.2.1 _)
    (fun _ => h.2.2.2.2.2.1 _) (fun _ => h.2.2.2.2.2.2 _) e

end Cert.Spec

end
-- ==== Proof.Arrays.lean ====
module

public import proofs.«01_k».proof.Proof.Pieces
public import proofs.«01_k».proof.Proof.Spec
public import Idealize.ShloMosaic.Lib.Tactic

@[expose] public section

set_option maxRecDepth 16384

noncomputable section

/-! The blocks a grid point reads, from the arguments, and the three arrays the launch ends with. -/

namespace Cert.KernelIdeal.Block

open Idealize.ShloMosaic Idealize.ShloMosaic.TcCoe Cert.KernelIdeal.Gen Cert Cert.KernelIdeal

variable (m : (ℓ : Loc nD τ sig) → Buf (Elt Ideal) ℓ)

/-- Where each window's block stands at a grid point. -/
theorem idx_win : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![0, 0] :=
  (by decide +kernel : ∀ t : Fin grid0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![0, 0])

/-- The grid has eight points. -/
theorem N_lt (t : Fin cfg0.N) : t.val < 8 := lt_of_lt_of_eq t.isLt (show cfg0.N = 8 from N_0)

/-- The tokens' block: row `r` of block `t` is token `1024 t + r`. -/
theorem blk0 (c : Dev nD) (t : Fin cfg0.N) (r : Fin 1024) (k : Fin 2048) (b : Fin 4) (s : Fin 2048)
    (h : 1024 * t.val + r.val = 2048 * b.val + s.val) :
    iblk m c 0 t (ValueIdx.ix2 r k) = m (c.tc.loc main_arg0) (ValueIdx.ix3 b s k) := by
  have ht := N_lt t
  have hr := r.isLt
  have e : iblk m c 0 t (ValueIdx.ix2 r k)
      = V m c main_v0 (ValueIdx.ix2 (⟨1024 * t.val + r.val, by omega⟩ : Fin 8192) k) := by
    blk_ext [iblk, (idx_win t).1]
    show t.val * 1024 + r.val = 1024 * t.val + r.val
    omega
  rw [e]
  entry_read
  refine shapeCast_apply _ shapeCasts_S4x2048x2048_S8192x2048 _ _ ?_
  rw [Shape.rowMajor_val_three, Shape.rowMajor_val_two]
  show (b.val * 2048 + s.val) * 2048 + k.val = (1024 * t.val + r.val) * 2048 + k.val
  omega

/-- The first layer's weights. -/
theorem blk1 (c : Dev nD) (t : Fin cfg0.N) (k j : Fin 2048) :
    iblk m c 1 t (ValueIdx.ix2 k j) = m (c.tc.loc main_arg1) (ValueIdx.ix2 k j) := by
  blk_ext! [iblk, V, (idx_win t).2.1]

/-- The first layer's shift. -/
theorem blk2 (c : Dev nD) (t : Fin cfg0.N) (j : Fin 2048) :
    iblk m c 2 t (ValueIdx.ix2 (0 : Fin 1) j) = m (c.tc.loc main_arg2) (ValueIdx.ix1 j) := by
  have e : iblk m c 2 t (ValueIdx.ix2 (0 : Fin 1) j) = V m c main_v2 (ValueIdx.ix2 (0 : Fin 1) j) := by
    blk_ext [iblk, (idx_win t).2.2.1]
  rw [e]
  entry_read
  exact ValueIdx.shapeCast_a_1a_apply _ shapeCasts_S2048_S1x2048 _ _

/-- The second layer's weights. -/
theorem blk3 (c : Dev nD) (t : Fin cfg0.N) (k : Fin 2048) (e : Fin 64) :
    iblk m c 3 t (ValueIdx.ix2 k e) = m (c.tc.loc main_arg3) (ValueIdx.ix2 k e) := by
  blk_ext! [iblk, V, (idx_win t).2.2.2.1]

/-- The second layer's shift. -/
theorem blk4 (c : Dev nD) (t : Fin cfg0.N) (e : Fin 64) :
    iblk m c 4 t (ValueIdx.ix2 (0 : Fin 1) e) = m (c.tc.loc main_arg4) (ValueIdx.ix1 e) := by
  have e : iblk m c 4 t (ValueIdx.ix2 (0 : Fin 1) e) = V m c main_v4 (ValueIdx.ix2 (0 : Fin 1) e) := by
    blk_ext [iblk, (idx_win t).2.2.2.2.1]
  rw [e]
  entry_read
  exact ValueIdx.shapeCast_a_1a_apply _ shapeCasts_S64_S1x64 _ _

/-- The normalisation's scale. -/
theorem blk5 (c : Dev nD) (t : Fin cfg0.N) (k : Fin 2048) :
    iblk m c 5 t (ValueIdx.ix2 (0 : Fin 1) k) = m (c.tc.loc main_arg5) (ValueIdx.ix1 k) := by
  have e : iblk m c 5 t (ValueIdx.ix2 (0 : Fin 1) k) = V m c main_v5 (ValueIdx.ix2 (0 : Fin 1) k) := by
    blk_ext [iblk, (idx_win t).2.2.2.2.2.1]
  rw [e]
  entry_read
  exact ValueIdx.shapeCast_a_1a_apply _ shapeCasts_S2048_S1x2048 _ _

/-- The normalisation's shift. -/
theorem blk6 (c : Dev nD) (t : Fin cfg0.N) (k : Fin 2048) :
    iblk m c 6 t (ValueIdx.ix2 (0 : Fin 1) k) = m (c.tc.loc main_arg6) (ValueIdx.ix1 k) := by
  have e : iblk m c 6 t (ValueIdx.ix2 (0 : Fin 1) k) = V m c main_v6 (ValueIdx.ix2 (0 : Fin 1) k) := by
    blk_ext [iblk, (idx_win t).2.2.2.2.2.2.1]
  rw [e]
  entry_read
  exact ValueIdx.shapeCast_a_1a_apply _ shapeCasts_S2048_S1x2048 _ _

/-- Every entry of every argument of the run is a real number. -/
def FinA (c : Dev nD) : Prop :=
  Spec.Fin7 (m (c.tc.loc main_arg0)) (m (c.tc.loc main_arg1)) (m (c.tc.loc main_arg2)) (m (c.tc.loc main_arg3))
    (m (c.tc.loc main_arg4)) (m (c.tc.loc main_arg5)) (m (c.tc.loc main_arg6))

/-- The probabilities at a token of the run's arguments. -/
def prA (c : Dev nD) (b : Fin 4) (s : Fin 2048) : Fin 64 → EReal :=
  Spec.pr (m (c.tc.loc main_arg0)) (m (c.tc.loc main_arg1)) (m (c.tc.loc main_arg2)) (m (c.tc.loc main_arg3))
    (m (c.tc.loc main_arg4)) (m (c.tc.loc main_arg5)) (m (c.tc.loc main_arg6)) b s

variable {m}

/-- The probabilities of row `r` of block `t` are those of token `1024 t + r`. -/
theorem P_apply {c : Dev nD} (hA : FinA m c) (t : Fin cfg0.N) (r : Fin 1024) (e : Fin 64) (b : Fin 4) (s : Fin 2048)
    (h : 1024 * t.val + r.val = 2048 * b.val + s.val) : P m c t (ValueIdx.ix2 r e) = prA m c b s e := by
  unfold P
  rw [probs_apply _ _ _ _ _ _ _ _ fun k => by rw [blk0 m c t r k b s h]; exact hA.1 _]
  unfold prA Spec.pr
  simp only [blk0 m c t r _ b s h, blk1, blk2, blk3, blk4, blk5, blk6]

/-- The same for the whole row. -/
theorem P_row {c : Dev nD} (hA : FinA m c) (t : Fin cfg0.N) (r : Fin 1024) (b : Fin 4) (s : Fin 2048)
    (h : 1024 * t.val + r.val = 2048 * b.val + s.val) : (fun e => P m c t (ValueIdx.ix2 r e)) = prA m c b s :=
  funext fun e => P_apply hA t r e b s h

variable (m)

/-- What every point leaves in the block of numbers. -/
theorem outs_idx (c : Dev nD) (t : Fin cfg0.N) : (outsAt0 m c t.val t.isLt).1 = idxOut (P m c t) := by
  by_cases h0 : t.val % 8 = 0
  · exact outs_A_idx m c t h0 (by omega)
  · by_cases h1 : t.val % 8 = 7
    · exact outs_C_idx m c t h0 h1
    · exact outs_B_idx m c t h0 h1

/-- What every point leaves in the block of values. -/
theorem outs_val (c : Dev nD) (t : Fin cfg0.N) : (outsAt0 m c t.val t.isLt).2.1 = valOut (P m c t) := by
  by_cases h0 : t.val % 8 = 0
  · exact outs_A_val m c t h0 (by omega)
  · by_cases h1 : t.val % 8 = 7
    · exact outs_C_val m c t h0 h1
    · exact outs_B_val m c t h0 h1

/-- What a point adds to the accumulator, for any natural number. -/
def term (c : Dev nD) (e : Fin 64) (n : ℕ) : EReal :=
  if h : n < cfg0.N then ∑ r : Fin 1024, P m c ⟨n, h⟩ (ValueIdx.ix2 r e) else 0

/-- The accumulator after a point is the sum of what the points up to it added. -/
theorem outs_acc (c : Dev nD) (e : Fin 64) : ∀ (n : ℕ) (hn : n < cfg0.N),
    (outsAt0 m c n hn).2.2.2 (ValueIdx.ix2 (0 : Fin 1) e) = ∑ k ∈ Finset.range (n + 1), term m c e k := by
  intro n
  induction n with
  | zero =>
    intro hn
    rw [outs_A_acc m c ⟨0, hn⟩ rfl (by show ¬(0 % 8 = 7); decide), stepP_apply, zero_apply, zero_add, Finset.sum_range_one]
    unfold term
    rw [dif_pos hn]
  | succ n ih =>
    intro hn
    have h8 := N_lt ⟨n + 1, hn⟩
    have h0 : ¬(n + 1) % 8 = 0 := by dsimp only at h8; omega
    rw [Finset.sum_range_succ, ← ih (Nat.lt_of_succ_lt hn), show term m c e (n + 1) = ∑ r : Fin 1024, P m c ⟨n + 1, hn⟩ (ValueIdx.ix2 r e)
      from dif_pos hn]
    by_cases h1 : (n + 1) % 8 = 7
    · rw [outs_C_acc m c ⟨n + 1, hn⟩ h0 h1, stepP_apply]
      rfl
    · rw [outs_B_acc m c ⟨n + 1, hn⟩ h0 h1, stepP_apply]
      rfl

/-- The tokens by block and row, and by batch and position, are the same tokens. -/
theorem sum_tokens (f : Fin 4 → Fin 2048 → EReal) :
    (∑ t : Fin 8, ∑ r : Fin 1024, f ⟨(1024 * t.val + r.val) / 2048, by have := t.isLt; have := r.isLt; omega⟩
      ⟨(1024 * t.val + r.val) % 2048, by omega⟩) = ∑ b, ∑ s, f b s := by
  have h1 := (finProdFinEquiv (m := 8) (n := 1024)).sum_comp
    (fun n : Fin 8192 => f ⟨n.val / 2048, by have := n.isLt; omega⟩ ⟨n.val % 2048, by omega⟩)
  have h2 := (finProdFinEquiv (m := 4) (n := 2048)).sum_comp
    (fun n : Fin 8192 => f ⟨n.val / 2048, by have := n.isLt; omega⟩ ⟨n.val % 2048, by omega⟩)
  rw [Fintype.sum_prod_type] at h1 h2
  refine Eq.trans ?_ (h1.trans (h2.symm.trans ?_))
  · refine Finset.sum_congr rfl fun t _ => Finset.sum_congr rfl fun r _ => congrArg₂ f (Fin.ext ?_) (Fin.ext ?_)
    · show (1024 * t.val + r.val) / 2048 = (r.val + 1024 * t.val) / 2048
      rw [add_comm]
    · show (1024 * t.val + r.val) % 2048 = (r.val + 1024 * t.val) % 2048
      rw [add_comm]
  · refine Finset.sum_congr rfl fun b _ => Finset.sum_congr rfl fun s _ => congrArg₂ f (Fin.ext ?_) (Fin.ext ?_)
    · show (s.val + 2048 * b.val) / 2048 = b.val
      have := s.isLt; omega
    · show (s.val + 2048 * b.val) % 2048 = s.val
      have := s.isLt; omega

variable {m}

/-- The array of numbers after the launch. -/
theorem arr7 {c : Dev nD} (hA : FinA m c) : (dats m 0 c).arrAt 7 cfg0.N = fun i : S8192x8.Idx =>
    BitVec.ofNat 32 (TopK.sel (prA m c ⟨(i 0).val / 2048, by have : (i 0).val < 8192 := (i 0).isLt; omega⟩
      ⟨(i 0).val % 2048, by omega⟩) (i 1).val).val := by
  refine (dats m 0 c).arrAt_eq_of_covers 7 _ (by decide +kernel) fun t hf y => ?_
  blk_simp
  rw [after0_7, outs_idx]
  obtain ⟨r, i, rfl⟩ : ∃ r : Fin 1024, ∃ i : Fin 8, y = ValueIdx.ix2 r i := ⟨y 0, y 1, ValueIdx.eq_ix2 y⟩
  have ht := N_lt t
  have e0 : win0_7.index t 0 = t.val := congrFun (idx_win t).2.2.2.2.2.2.2.1 0
  have e1 : win0_7.index t 1 = 0 := congrFun (idx_win t).2.2.2.2.2.2.2.1 1
  refine (idxOut_apply _ r i).trans ?_
  have hr := r.isLt
  rw [P_row hA t r ⟨(t.val * 1024 + r.val) / 2048, by omega⟩ ⟨(t.val * 1024 + r.val) % 2048, by omega⟩ (by dsimp only; omega)]
  simp only [e0, e1, Nat.zero_mul, Nat.zero_add]

/-- The array of values after the launch. -/
theorem arr8 {c : Dev nD} (hA : FinA m c) : (dats m 0 c).arrAt 8 cfg0.N = fun i : S8192x8.Idx =>
    Ideal.div (prA m c ⟨(i 0).val / 2048, by have : (i 0).val < 8192 := (i 0).isLt; omega⟩ ⟨(i 0).val % 2048, by omega⟩
      (TopK.sel (prA m c ⟨(i 0).val / 2048, by have : (i 0).val < 8192 := (i 0).isLt; omega⟩ ⟨(i 0).val % 2048, by omega⟩) (i 1).val))
      (∑ j : Fin 8, prA m c ⟨(i 0).val / 2048, by have : (i 0).val < 8192 := (i 0).isLt; omega⟩ ⟨(i 0).val % 2048, by omega⟩
        (TopK.sel (prA m c ⟨(i 0).val / 2048, by have : (i 0).val < 8192 := (i 0).isLt; omega⟩ ⟨(i 0).val % 2048, by omega⟩) j.val)) := by
  refine (dats m 0 c).arrAt_eq_of_covers 8 _ (by decide +kernel) fun t hf y => ?_
  blk_simp
  rw [after0_8, outs_val]
  obtain ⟨r, i, rfl⟩ : ∃ r : Fin 1024, ∃ i : Fin 8, y = ValueIdx.ix2 r i := ⟨y 0, y 1, ValueIdx.eq_ix2 y⟩
  have ht := N_lt t
  have e0 : win0_8.index t 0 = t.val := congrFun (idx_win t).2.2.2.2.2.2.2.2.1 0
  have e1 : win0_8.index t 1 = 0 := congrFun (idx_win t).2.2.2.2.2.2.2.2.1 1
  have hr := r.isLt
  have hP := fun e => P_apply hA t r e ⟨(t.val * 1024 + r.val) / 2048, by omega⟩ ⟨(t.val * 1024 + r.val) % 2048, by omega⟩
    (by dsimp only; omega)
  refine (valOut_apply _ r (fun k => ?_) i).trans ?_
  · rw [hP k]
    exact Spec.pr_gt hA _ _ k
  simp only [hP, e0, e1, Nat.zero_mul, Nat.zero_add]

/-- The loss array after the launch. -/
theorem arr9 {c : Dev nD} (hA : FinA m c) : (dats m 0 c).arrAt 9 cfg0.N = fun _ : S1x1.Idx =>
    Row.los fun e => ∑ b, ∑ s, prA m c b s e := by
  refine (dats m 0 c).arrAt_eq_of_after_last 9 t0_7 (by decide +kernel) _ fun j => ?_
  blk_simp
  rw [after0_9, outs_C_los m c t0_7 (by decide) (by decide), ← outs_C_acc m c t0_7 (by decide) (by decide)]
  obtain rfl : j = ValueIdx.ix2 (0 : Fin 1) (0 : Fin 1) := by
    rw [ValueIdx.eq_ix2 j]
    congr 1 <;> exact Subsingleton.elim (α := Fin 1) _ _
  refine (los_apply _).trans (congrArg Row.los (funext fun e => ?_))
  rw [outs_acc, ← sum_tokens fun b s => prA m c b s e]
  refine (Finset.sum_range _).trans (Finset.sum_congr rfl fun t _ => ?_)
  have ht : t.val < cfg0.N := t.isLt
  unfold term
  rw [dif_pos ht]
  refine Finset.sum_congr rfl fun r _ => P_apply hA ⟨t.val, ht⟩ r e _ _ ?_
  dsimp only
  omega

end Cert.KernelIdeal.Block

end
-- ==== Proof.Tail.lean ====
module

public import proofs.«01_k».proof.Proof.Arrays
public import Idealize.ShloMosaic.Lib.Claim

@[expose] public section

set_option maxRecDepth 16384

noncomputable section

/-! The three results of the kernel after the reshapes that follow the launch, and its run. -/

namespace Cert.KernelIdeal.Block

open Idealize.ShloMosaic Idealize.ShloMosaic.TcCoe Idealize.SL.Sem Cert.KernelIdeal.Gen Cert Cert.KernelIdeal

variable (m : (ℓ : Loc nD τ sig) → Buf (Elt Ideal) ℓ)

/-- No two windows of the launch are over one array. -/
theorem arr_inj : Function.Injective (Pipeline.arrRef spec0) := by decide

/-- What the reshapes leave in the first result is the array of numbers, reshaped. -/
theorem tail8 (c : Dev nD) : Pipeline.afterTail₀ cfgs (dats m) 0 (V0 m) [hostOps1] c main_v8
    = shapeCast S4x2048x8 ((dats m 0 c).arrAt 7 cfg0.N) shapeCasts_S8192x8_S4x2048x8 := by
  unfold Pipeline.afterTail₀
  simp only [hostOps1, List.flatten_cons, List.flatten_nil, List.append_nil]
  after_results
  exact congrArg (fun A => shapeCast S4x2048x8 A shapeCasts_S8192x8_S4x2048x8)
    (Pipeline.withArrays_arr spec0 arr_inj c (V0 m c) (fun w => (dats m 0 c).arrAt w (cfgs 0).N) 7)

/-- What the reshapes leave in the second result is the array of values, reshaped. -/
theorem tail9 (c : Dev nD) : Pipeline.afterTail₀ cfgs (dats m) 0 (V0 m) [hostOps1] c main_v9
    = shapeCast S4x2048x8 ((dats m 0 c).arrAt 8 cfg0.N) shapeCasts_S8192x8_S4x2048x8 := by
  unfold Pipeline.afterTail₀
  simp only [hostOps1, List.flatten_cons, List.flatten_nil, List.append_nil]
  after_results
  exact congrArg (fun A => shapeCast S4x2048x8 A shapeCasts_S8192x8_S4x2048x8)
    (Pipeline.withArrays_arr spec0 arr_inj c (V0 m c) (fun w => (dats m 0 c).arrAt w (cfgs 0).N) 8)

/-- What the reshapes leave in the third result is the loss array, reshaped. -/
theorem tail10 (c : Dev nD) : Pipeline.afterTail₀ cfgs (dats m) 0 (V0 m) [hostOps1] c main_v10
    = shapeCast S_ ((dats m 0 c).arrAt 9 cfg0.N) shapeCasts_S1x1_S_ := by
  unfold Pipeline.afterTail₀
  simp only [hostOps1, List.flatten_cons, List.flatten_nil, List.append_nil]
  after_results
  exact congrArg (fun A => shapeCast S_ A shapeCasts_S1x1_S_)
    (Pipeline.withArrays_arr spec0 arr_inj c (V0 m c) (fun w => (dats m 0 c).arrAt w (cfgs 0).N) 9)

variable {m}

/-- A two-axis array over the tokens reshaped to batches and positions, entry by entry. -/
theorem tokens_apply {α : Type} (A : S8192x8.Idx → α) (b : Fin 4) (s : Fin 2048) (i : Fin 8) :
    shapeCast S4x2048x8 A shapeCasts_S8192x8_S4x2048x8 (ValueIdx.ix3 b s i)
      = A (ValueIdx.ix2 (⟨2048 * b.val + s.val, by have := b.isLt; have := s.isLt; omega⟩ : Fin 8192) i) := by
  refine shapeCast_apply _ _ _ _ ?_
  rw [Shape.rowMajor_val_two, Shape.rowMajor_val_three]
  show (2048 * b.val + s.val) * 8 + i.val = (b.val * 2048 + s.val) * 8 + i.val
  omega

/-- The first result: the numbers of the experts chosen. -/
theorem res8 {c : Dev nD} (hA : FinA m c) : Pipeline.afterTail₀ cfgs (dats m) 0 (V0 m) [hostOps1] c main_v8
    = fun y : S4x2048x8.Idx => BitVec.ofNat 32 (TopK.sel (prA m c (y 0) (y 1)) (y 2).val).val := by
  rw [tail8, arr7 hA]
  funext y
  obtain ⟨b, s, i, rfl⟩ : ∃ b s i, y = ValueIdx.ix3 b s i := ⟨y 0, y 1, y 2, ValueIdx.eq_ix3 y⟩
  rw [tokens_apply]
  have e0 : (⟨(2048 * b.val + s.val) / 2048, by have := b.isLt; have := s.isLt; omega⟩ : Fin 4) = b := Fin.ext (by have := s.isLt; dsimp only; omega)
  have e1 : (⟨(2048 * b.val + s.val) % 2048, by omega⟩ : Fin 2048) = s := Fin.ext (by have := s.isLt; dsimp only; omega)
  exact congrArg₂ (fun b s => BitVec.ofNat 32 (TopK.sel (prA m c b s) i.val).val) e0 e1

/-- The second result: the probabilities of the experts chosen, over their sum. -/
theorem res9 {c : Dev nD} (hA : FinA m c) : Pipeline.afterTail₀ cfgs (dats m) 0 (V0 m) [hostOps1] c main_v9
    = fun y : S4x2048x8.Idx => Ideal.div (prA m c (y 0) (y 1) (TopK.sel (prA m c (y 0) (y 1)) (y 2).val))
      (∑ j : Fin 8, prA m c (y 0) (y 1) (TopK.sel (prA m c (y 0) (y 1)) j.val)) := by
  rw [tail9, arr8 hA]
  funext y
  obtain ⟨b, s, i, rfl⟩ : ∃ b s i, y = ValueIdx.ix3 b s i := ⟨y 0, y 1, y 2, ValueIdx.eq_ix3 y⟩
  rw [tokens_apply]
  have e0 : (⟨(2048 * b.val + s.val) / 2048, by have := b.isLt; have := s.isLt; omega⟩ : Fin 4) = b := Fin.ext (by have := s.isLt; dsimp only; omega)
  have e1 : (⟨(2048 * b.val + s.val) % 2048, by omega⟩ : Fin 2048) = s := Fin.ext (by have := s.isLt; dsimp only; omega)
  exact congrArg₂ (fun b s => Ideal.div (prA m c b s (TopK.sel (prA m c b s) i.val))
    (∑ j : Fin 8, prA m c b s (TopK.sel (prA m c b s) j.val))) e0 e1

/-- The third result: the loss of all the tokens. -/
theorem res10 {c : Dev nD} (hA : FinA m c) : Pipeline.afterTail₀ cfgs (dats m) 0 (V0 m) [hostOps1] c main_v10
    = fun _ : S_.Idx => Row.los fun e => ∑ b, ∑ s, prA m c b s e := by
  rw [tail10, arr9 hA]
  rfl

/-- The run of the kernel over the reals, from finite arguments: its three results, the arguments unchanged. -/
theorem run (m : (ℓ : Loc nD τ sig) → Buf (Elt Ideal) ℓ) (ρ : Dev nD → PrngReg) (hA : ∀ c, FinA m c) :
    θ_run defs (onTc (τ := τ) (main (F := Ideal))) ⟨m, fun _ => 0, ρ⟩ (fun r => ∀ c : Dev nD,
      r.2.mem ((c.tc : Thread nD τ).loc main_v8)
        = (fun y : S4x2048x8.Idx => BitVec.ofNat 32 (TopK.sel (prA m c (y 0) (y 1)) (y 2).val).val)
      ∧ r.2.mem ((c.tc : Thread nD τ).loc main_v9)
        = (fun y : S4x2048x8.Idx => Ideal.div (prA m c (y 0) (y 1) (TopK.sel (prA m c (y 0) (y 1)) (y 2).val))
            (∑ j : Fin 8, prA m c (y 0) (y 1) (TopK.sel (prA m c (y 0) (y 1)) j.val)))
      ∧ r.2.mem ((c.tc : Thread nD τ).loc main_v10) = (fun _ : S_.Idx => Row.los fun e => ∑ b, ∑ s, prA m c b s e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (θ_run_and (run_main m ρ) (unchanged m ρ)) fun r h c => ⟨?_, ?_, ?_, h.2 c⟩
  · exact (h.1.rest_eq c main_v8 (Pipeline.mem_restRefs_of main_v8 (by decide) (by decide))).trans (res8 (hA c))
  · exact (h.1.rest_eq c main_v9 (Pipeline.mem_restRefs_of main_v9 (by decide) (by decide))).trans (res9 (hA c))
  · exact (h.1.rest_eq c main_v10 (Pipeline.mem_restRefs_of main_v10 (by decide) (by decide))).trans (res10 (hA c))

end Cert.KernelIdeal.Block

end
-- ==== Proof.RefPr.lean ====
module

public import proofs.«01_k».proof.Proof.Spec
public import proofs.«01_k».proof.Proof.Gen.ReferenceIdeal.Read
public import Idealize.ShloMosaic.Lib.Pipeline.Value

@[expose] public section

set_option maxRecDepth 16384

noncomputable section

/-! The reference's probabilities at a token, read stage by stage: they are `Spec.pr`. -/

namespace Cert.RefValue

open Idealize.ShloMosaic Idealize.ShloMosaic.ValueIdx Cert.ReferenceIdeal Cert.ReferenceIdeal.Read Cert.ReferenceIdeal.Gen Cert

variable (x0 : FVec Ideal S4x2048x2048 .f32) (x1 : FVec Ideal S2048x2048 .f32) (x2 : FVec Ideal S2048 .f32)
  (x3 : FVec Ideal S2048x64 .f32) (x4 : FVec Ideal S64 .f32) (x5 x6 : FVec Ideal S2048 .f32)

/-- The mean of a token's row. -/
theorem mean_apply (b : Fin 4) (s : Fin 2048) : val_main_v3 (F := Ideal) x0 (ix3 b s (0 : Fin 1)) = Row.mean fun k => x0 (ix3 b s k) := by
  rw [val_main_v3_apply, val_main_v1_apply, val_main_v0_apply, val_main_v2_apply, val_main_cst_apply, val_main_cst_0_apply]
  show Ideal.div (Ideal.ofBits .f32 0#32 + _) _ = _
  rw [Ideal.ofBits_zero_f32, zero_add]
  exact congrArg (Ideal.div · _) (Finset.sum_congr rfl fun k _ => congrArg x0 (eq_ix3 _))

/-- The mean inside the variance is the same mean. -/
theorem mean'_apply (b : Fin 4) (s : Fin 2048) :
    val_main_call0_v3 (F := Ideal) x0 (ix3 b s (0 : Fin 1)) = Row.mean fun k => x0 (ix3 b s k) := by
  rw [val_main_call0_v3_apply, val_main_call0_v1_apply, val_main_call0_v0_apply, val_main_call0_v2_apply, val_main_call0_cst_apply,
    val_main_call0_cst_0_apply]
  show Ideal.div (Ideal.ofBits .f32 0#32 + _) _ = _
  rw [Ideal.ofBits_zero_f32, zero_add]
  exact congrArg (Ideal.div · _) (Finset.sum_congr rfl fun k _ => congrArg x0 (eq_ix3 _))

/-- An entry less the mean of its row. -/
theorem ctr_apply (b : Fin 4) (s k : Fin 2048) : val_main_v6 (F := Ideal) x0 (ix3 b s k) = Row.ctr (fun k => x0 (ix3 b s k)) k := by
  rw [val_main_v6_apply, val_main_v5_apply, show idx_main_v5 (ix3 b s k) = ix3 b s (0 : Fin 1) from eq_ix3 _, mean_apply]
  rfl

/-- The same inside the variance. -/
theorem ctr'_apply (b : Fin 4) (s k : Fin 2048) :
    val_main_call0_v5 (F := Ideal) x0 (ix3 b s k) = Row.ctr (fun k => x0 (ix3 b s k)) k := by
  rw [val_main_call0_v5_apply, val_main_call0_v4_apply, show idx_main_call0_v4 (ix3 b s k) = ix3 b s (0 : Fin 1) from eq_ix3 _,
    mean'_apply]
  rfl

/-- The divisor of the variance, 2048 less no degree of freedom. -/
theorem dof_apply (i : S_.Idx) : val_main_call0_v8 (F := Ideal) i = Row.cN := by
  rw [val_main_call0_v8_apply, val_main_call0_cst_1_apply, val_main_call0_v7_apply, val_main_c_apply]
  show Row.cN - (((0#32).toInt : ℝ) : EReal) = _
  simp

/-- The divisor is positive. -/
theorem dof_pos (i : S_.Idx) : val_main_call0_v13 (F := Ideal) i = 1#1 := by
  rw [val_main_call0_v13_apply, dof_apply, val_main_call0_cst_3_apply]
  show BitVec.ofBool (decide (Ideal.ofBits .f32 0#32 < Row.cN)) = 1#1
  rw [Ideal.ofBits_zero_f32, Row.cN_eq, decide_eq_true (by norm_cast)]
  rfl

/-- The variance of a token's row. -/
theorem var_apply (b : Fin 4) (s : Fin 2048) : val_main_v4 (F := Ideal) x0 (ix3 b s (0 : Fin 1)) = Row.var fun k => x0 (ix3 b s k) := by
  unfold val_main_v4
  rw [select_apply, broadcastInDim_apply _ bcast_S_S4x2048x1 _ _ (fun a => a.elim0) (fun a => a.elim0), dof_pos]
  show val_main_call0_v12 (F := Ideal) x0 (ix3 b s (0 : Fin 1)) = _
  rw [val_main_call0_v12_apply, val_main_call0_v10_apply, val_main_call0_v9_apply, val_main_call0_v11_apply, dof_apply,
    val_main_call0_cst_2_apply]
  show Ideal.div (Ideal.ofBits .f32 0#32 + _) _ = _
  rw [Ideal.ofBits_zero_f32, zero_add]
  refine congrArg (Ideal.div · _) (Finset.sum_congr rfl fun k _ => ?_)
  rw [show idx_main_call0_v9 (idx_main_call0_v10 (ix3 b s (0 : Fin 1))) k = ix3 b s k from eq_ix3 _, val_main_call0_v6_apply, ctr'_apply]
  rfl

/-- The normalised row. -/
theorem nrm_apply (b : Fin 4) (s k : Fin 2048) : val_main_v17 (F := Ideal) x0 x5 x6 (ix3 b s k)
    = Row.nrm (fun k => x0 (ix3 b s k)) (fun k => x5 (ix1 k)) (fun k => x6 (ix1 k)) k := by
  rw [val_main_v17_apply, val_main_v14_apply, val_main_v11_apply, ctr_apply, val_main_v10_apply,
    show idx_main_v10 (ix3 b s k) = ix3 b s (0 : Fin 1) from eq_ix3 _, val_main_v9_apply, val_main_v8_apply, var_apply, val_main_v7_apply,
    val_main_cst_1_apply, val_main_v13_apply, val_main_v12_apply, val_main_v16_apply, val_main_v15_apply]
  unfold Row.nrm
  exact congrArg₂ (fun a b => _ * a + b) (congrArg x5 (eq_ix1 _)) (congrArg x6 (eq_ix1 _))

/-- The hidden layer. -/
theorem hid_apply (b : Fin 4) (s j : Fin 2048) : val_main_v22 (F := Ideal) x0 x1 x2 x5 x6 (ix3 b s j)
    = Row.hid (Row.nrm (fun k => x0 (ix3 b s k)) (fun k => x5 (ix1 k)) (fun k => x6 (ix1 k))) (fun k j => x1 (ix2 k j))
        (fun j => x2 (ix1 j)) j := by
  rw [val_main_v22_apply, val_main_v21_apply, val_main_v18_apply, val_main_v20_apply, val_main_v19_apply, val_main_call1_v0_apply,
    val_main_call1_cst_apply]
  show max (_ + _) (Ideal.ofBits .f32 0#32) = _
  rw [Ideal.ofBits_zero_f32]
  unfold Row.hid
  refine congrArg₂ (fun a b => max (a + b) 0) (Finset.sum_congr rfl fun k _ => ?_) (congrArg x2 (eq_ix1 _))
  rw [show lidx_main_v18 (ix3 b s j) k = ix3 b s k from eq_ix3 _, nrm_apply]
  exact congrArg (_ * ·) (congrArg x1 (eq_ix2 _))

/-- The scores of the experts at a token. -/
def lg (b : Fin 4) (s : Fin 2048) : Fin 64 → EReal :=
  Row.lgt (Row.hid (Row.nrm (fun k => x0 (ix3 b s k)) (fun k => x5 (ix1 k)) (fun k => x6 (ix1 k))) (fun k j => x1 (ix2 k j))
    (fun j => x2 (ix1 j))) (fun j e => x3 (ix2 j e)) (fun e => x4 (ix1 e))

/-- The reference's scores are those. -/
theorem lg_apply (b : Fin 4) (s : Fin 2048) (e : Fin 64) : val_main_v26 (F := Ideal) x0 x1 x2 x3 x4 x5 x6 (ix3 b s e)
    = lg x0 x1 x2 x3 x4 x5 x6 b s e := by
  rw [val_main_v26_apply, val_main_v23_apply, val_main_v25_apply, val_main_v24_apply]
  unfold lg Row.lgt
  refine congrArg₂ (fun a b : EReal => a + b) (Finset.sum_congr rfl fun k _ => ?_) (congrArg x4 (eq_ix1 _))
  rw [show lidx_main_v23 (ix3 b s e) k = ix3 b s k from eq_ix3 _, hid_apply]
  exact congrArg (_ * ·) (congrArg x3 (eq_ix2 _))

/-- The greatest score of a token. -/
theorem mx_apply (b : Fin 4) (s : Fin 2048) : val_main_v29 (F := Ideal) x0 x1 x2 x3 x4 x5 x6 (ix2 b s)
    = TopK.mx (lg x0 x1 x2 x3 x4 x5 x6 b s) := by
  rw [val_main_v29_apply, val_main_v28_apply, val_main_cst_3_apply]
  show max (Ideal.ofBits .f32 0xFF800000#32) _ = _
  rw [Row.neg_inf_eq, max_eq_right bot_le]
  unfold val_main_v27
  refine (Host.reduce_eq_fold_single (FloatOps.maximumf (F := Ideal) (φ := .f32)) _ _ reducesTo_S4x2048x64_S4x2048_d2 (by decide) h_S_ _).trans ?_
  rw [val_main_cst_2_apply]
  show (Finset.univ : Finset (Fin 64)).fold max (Ideal.ofBits .f32 0xFF800000#32) _ = _
  rw [Row.neg_inf_eq]
  unfold TopK.mx
  refine congrArg ((Finset.univ : Finset (Fin 64)).fold max ⊥) (funext fun e => ?_)
  exact (congrArg (val_main_v26 (F := Ideal) x0 x1 x2 x3 x4 x5 x6) (eq_ix3 _)).trans (lg_apply x0 x1 x2 x3 x4 x5 x6 b s e)

/-- The reference's probabilities are `Spec.pr`. -/
theorem pr_apply (b : Fin 4) (s : Fin 2048) (e : Fin 64) : val_main_v37 (F := Ideal) x0 x1 x2 x3 x4 x5 x6 (ix3 b s e)
    = Spec.pr x0 x1 x2 x3 x4 x5 x6 b s e := by
  have hx : ∀ e, val_main_v33 (F := Ideal) x0 x1 x2 x3 x4 x5 x6 (ix3 b s e)
      = Ideal.exp (lg x0 x1 x2 x3 x4 x5 x6 b s e - TopK.mx (lg x0 x1 x2 x3 x4 x5 x6 b s)) := fun e => by
    rw [val_main_v33_apply, val_main_v32_apply, lg_apply, val_main_v31_apply, val_main_v30_apply,
      show idx_main_v30 (idx_main_v31 (ix3 b s e)) = ix2 b s from eq_ix2 _, mx_apply]
    rfl
  rw [val_main_v37_apply, hx, val_main_v36_apply, val_main_v35_apply, val_main_v34_apply, val_main_cst_4_apply]
  show Ideal.div _ (Ideal.ofBits .f32 0#32 + _) = _
  rw [Ideal.ofBits_zero_f32, zero_add]
  unfold Spec.pr Row.prb Row.smax
  refine congrArg (Ideal.div _) (Finset.sum_congr rfl fun k _ => ?_)
  rw [show idx_main_v34 (idx_main_v35 (idx_main_v36 (ix3 b s e))) k = ix3 b s k from eq_ix3 _, hx]
  rfl

end Cert.RefValue

end
-- ==== Proof.RefVal.lean ====
module

public import proofs.«01_k».proof.Proof.RefPr
public import Idealize.ShloMosaic.Lib.Pointwise.Index

@[expose] public section

set_option maxRecDepth 16384

noncomputable section

/-! The reference's three results: they are `Spec.idx`, `Spec.val` and `Spec.los`. -/

namespace Cert.RefValue

open Idealize.ShloMosaic Cert.ReferenceIdeal Cert.ReferenceIdeal.Read Cert.ReferenceIdeal.Gen Cert

/-- The position the sort of a token's row puts at `i` below eight. -/
theorem sorted_apply (x : FVec Ideal S4x2048x64 .f32) (b : Fin 4) (s : Fin 2048) (i : Fin 8)
    (hp : ∀ k, -1 < x (ValueIdx.ix3 b s k)) :
    sortedFrom (fun k k' : Fin 64 => FloatOps.cmpfTotal (F := Ideal) (φ := .f32) .gt (x (ValueIdx.ix3 b s k)) (x (ValueIdx.ix3 b s k')) == 1#1)
      (i.castLE (by decide : 8 ≤ 64)) = TopK.sel (fun k => x (ValueIdx.ix3 b s k)) i.val := by
  rw [← TopK.sortedFrom_eq_sel _ hp]
  refine congrArg (fun f => sortedFrom f (i.castLE (by decide : 8 ≤ 64))) (funext fun k => funext fun k' => ?_)
  show (BitVec.ofBool (decide (x (ValueIdx.ix3 b s k') < x (ValueIdx.ix3 b s k))) == 1#1) = _
  cases decide (x (ValueIdx.ix3 b s k') < x (ValueIdx.ix3 b s k)) <;> rfl

/-- An index of the row moved along the row. -/
theorem along_apply (b : Fin 4) (s : Fin 2048) (k k' : Fin 64) :
    (ValueIdx.ix3 b s k : S4x2048x64.Idx).along 2 k' = ValueIdx.ix3 b s k' := by
  unfold Shape.Idx.along
  funext a
  match a with
  | ⟨0, _⟩ => rfl
  | ⟨1, _⟩ => rfl
  | ⟨2, _⟩ => rfl

/-- The values of the eight greatest of a token's row. -/
theorem topK_val (x : FVec Ideal S4x2048x64 .f32) (b : Fin 4) (s : Fin 2048) (i : Fin 8) (hp : ∀ k, -1 < x (ValueIdx.ix3 b s k)) :
    (Host.topK S4x2048x8 2 (FloatOps.cmpfTotal (F := Ideal) (φ := .f32) .gt) x sliceFits_S4x2048x64_S4x2048x8).1 (ValueIdx.ix3 b s i)
      = x (ValueIdx.ix3 b s (TopK.sel (fun k => x (ValueIdx.ix3 b s k)) i.val)) := by
  rw [← sorted_apply x b s i hp]
  unfold Host.topK Host.sort2
  dsimp only
  rw [dif_pos (by decide)]
  refine (extractStridedSlice_apply _ _ _ (ValueIdx.ix3 b s i) (ValueIdx.ix3 b s (i.castLE (by decide : 8 ≤ 64))) (fun a => by match a with
    | ⟨0, _⟩ => exact (Nat.zero_add _).symm
    | ⟨1, _⟩ => exact (Nat.zero_add _).symm
    | ⟨2, _⟩ => exact (Nat.zero_add _).symm)).trans ?_
  refine (congrArg x (along_apply b s (i.castLE (by decide : 8 ≤ 64)) _)).trans ?_
  refine congrArg (fun f : Fin 64 → Fin 64 → Bool => x (ValueIdx.ix3 b s (sortedFrom f (i.castLE (by decide : 8 ≤ 64)))))
    (funext fun k => funext fun k' => ?_)
  exact congrArg₂ (fun u v => FloatOps.cmpfTotal (F := Ideal) (φ := .f32) .gt u v == 1#1) (congrArg x (along_apply b s _ k))
    (congrArg x (along_apply b s _ k'))

/-- The positions of the eight greatest of a token's row. -/
theorem topK_idx (x : FVec Ideal S4x2048x64 .f32) (b : Fin 4) (s : Fin 2048) (i : Fin 8) (hp : ∀ k, -1 < x (ValueIdx.ix3 b s k)) :
    (Host.topK S4x2048x8 2 (FloatOps.cmpfTotal (F := Ideal) (φ := .f32) .gt) x sliceFits_S4x2048x64_S4x2048x8).2 (ValueIdx.ix3 b s i)
      = BitVec.ofNat 32 (TopK.sel (fun k => x (ValueIdx.ix3 b s k)) i.val).val := by
  rw [← sorted_apply x b s i hp]
  unfold Host.topK Host.sort2
  dsimp only
  rw [dif_pos (by decide)]
  refine (extractStridedSlice_apply _ _ _ (ValueIdx.ix3 b s i) (ValueIdx.ix3 b s (i.castLE (by decide : 8 ≤ 64))) (fun a => by match a with
    | ⟨0, _⟩ => exact (Nat.zero_add _).symm
    | ⟨1, _⟩ => exact (Nat.zero_add _).symm
    | ⟨2, _⟩ => exact (Nat.zero_add _).symm)).trans ?_
  refine (congrArg (fun j : S4x2048x64.Idx => BitVec.ofNat 32 (j 2).val) (along_apply b s (i.castLE (by decide : 8 ≤ 64)) _)).trans ?_
  refine congrArg (fun f : Fin 64 → Fin 64 → Bool => BitVec.ofNat 32 (sortedFrom f (i.castLE (by decide : 8 ≤ 64))).val)
    (funext fun k => funext fun k' => ?_)
  exact congrArg₂ (fun u v => FloatOps.cmpfTotal (F := Ideal) (φ := .f32) .gt u v == 1#1) (congrArg x (along_apply b s _ k))
    (congrArg x (along_apply b s _ k'))

/-- What the sum over batches and positions keeps of an index is its expert. -/
theorem drop_apply (b : Fin 4) (s : Fin 2048) (k : Fin 64) :
    (reducesTo_S4x2048x64_S64_d0_1.drop (ValueIdx.ix3 b s k : S4x2048x64.Idx) 0).val = k.val :=
  Shape.ReducesTo.drop_apply_val_of_eq reducesTo_S4x2048x64_S64_d0_1 (ValueIdx.ix3 b s k : S4x2048x64.Idx) 0 2

/-- A sum over batches and positions, expert by expert. -/
theorem reduce_tokens (x : FVec Ideal S4x2048x64 .f32) (z : S_.Idx → Ideal .f32) (e : Fin 64) :
    Host.reduceAdd x z reducesTo_S4x2048x64_S64_d0_1 h_S_ (ValueIdx.ix1 e)
      = z (Shape.Idx.first h_S_) + ∑ b : Fin 4, ∑ s : Fin 2048, x (ValueIdx.ix3 b s e) := by
  show z (Shape.Idx.first h_S_) + ∑ i ∈ Finset.univ.filter (fun i => reducesTo_S4x2048x64_S64_d0_1.drop i = ValueIdx.ix1 e), x i = _
  refine congrArg (_ + ·) ?_
  rw [Finset.sum_filter, sum_idx3]
  refine Finset.sum_congr rfl fun b _ => Finset.sum_congr rfl fun s _ => ?_
  rw [Finset.sum_eq_single e]
  · refine if_pos ?_
    funext a
    match a with
    | ⟨0, _⟩ => exact Fin.ext (drop_apply b s e)
  · intro k _ hk
    refine if_neg fun h => hk (Fin.ext ?_)
    have h0 := congrArg Fin.val (congrFun h 0)
    exact (drop_apply b s k).symm.trans h0
  · exact fun h => absurd (Finset.mem_univ e) h

variable {x0 : FVec Ideal S4x2048x2048 .f32} {x1 : FVec Ideal S2048x2048 .f32} {x2 : FVec Ideal S2048 .f32}
  {x3 : FVec Ideal S2048x64 .f32} {x4 : FVec Ideal S64 .f32} {x5 x6 : FVec Ideal S2048 .f32}

/-- A token's row of the reference's probabilities. -/
theorem row_apply (b : Fin 4) (s : Fin 2048) : (fun k => val_main_v37 (F := Ideal) x0 x1 x2 x3 x4 x5 x6 (ValueIdx.ix3 b s k))
    = Spec.pr x0 x1 x2 x3 x4 x5 x6 b s := funext fun k => pr_apply x0 x1 x2 x3 x4 x5 x6 b s k

/-- Every probability of the reference is above −1. -/
theorem row_gt (h : Spec.Fin7 x0 x1 x2 x3 x4 x5 x6) (b : Fin 4) (s : Fin 2048) (k : Fin 64) :
    -1 < val_main_v37 (F := Ideal) x0 x1 x2 x3 x4 x5 x6 (ValueIdx.ix3 b s k) := by
  rw [pr_apply]
  exact Spec.pr_gt h b s k

/-- The reference's first result. -/
theorem idx_eq (h : Spec.Fin7 x0 x1 x2 x3 x4 x5 x6) : val_main_indices (F := Ideal) x0 x1 x2 x3 x4 x5 x6
    = fun y => Spec.idx x0 x1 x2 x3 x4 x5 x6 (y 0) (y 1) (y 2) := by
  funext y
  obtain ⟨b, s, i, rfl⟩ : ∃ b s i, y = ValueIdx.ix3 b s i := ⟨y 0, y 1, y 2, ValueIdx.eq_ix3 y⟩
  unfold val_main_indices
  rw [topK_idx _ b s i (row_gt h b s), row_apply]
  rfl

/-- The eight greatest probabilities. -/
theorem values_apply (h : Spec.Fin7 x0 x1 x2 x3 x4 x5 x6) (b : Fin 4) (s : Fin 2048) (i : Fin 8) :
    val_main_values (F := Ideal) x0 x1 x2 x3 x4 x5 x6 (ValueIdx.ix3 b s i)
      = Spec.pr x0 x1 x2 x3 x4 x5 x6 b s (TopK.sel (Spec.pr x0 x1 x2 x3 x4 x5 x6 b s) i.val) := by
  unfold val_main_values
  rw [topK_val _ b s i (row_gt h b s), row_apply, pr_apply]

/-- The reference's second result. -/
theorem val_eq (h : Spec.Fin7 x0 x1 x2 x3 x4 x5 x6) : val_main_v41 (F := Ideal) x0 x1 x2 x3 x4 x5 x6
    = fun y => Spec.val x0 x1 x2 x3 x4 x5 x6 (y 0) (y 1) (y 2) := by
  funext y
  obtain ⟨b, s, i, rfl⟩ : ∃ b s i, y = ValueIdx.ix3 b s i := ⟨y 0, y 1, y 2, ValueIdx.eq_ix3 y⟩
  rw [val_main_v41_apply, values_apply h, val_main_v40_apply, val_main_v39_apply, val_main_v38_apply, val_main_cst_5_apply]
  show Ideal.div _ (Ideal.ofBits .f32 0#32 + _) = Spec.val x0 x1 x2 x3 x4 x5 x6 b s i
  rw [Ideal.ofBits_zero_f32, zero_add]
  unfold Spec.val
  refine congrArg (Ideal.div _) (Finset.sum_congr rfl fun k _ => ?_)
  rw [show idx_main_v38 (idx_main_v39 (idx_main_v40 (ValueIdx.ix3 b s i))) k = ValueIdx.ix3 b s k from ValueIdx.eq_ix3 _, values_apply h]

/-- The reference's share of each expert, before the division by the number of tokens. -/
theorem tot_apply (e : Fin 64) : val_main_v42 (F := Ideal) x0 x1 x2 x3 x4 x5 x6 (ValueIdx.ix1 e)
    = ∑ b : Fin 4, ∑ s : Fin 2048, Spec.pr x0 x1 x2 x3 x4 x5 x6 b s e := by
  unfold val_main_v42
  rw [reduce_tokens, val_main_cst_6_apply]
  show Ideal.ofBits .f32 0#32 + _ = _
  rw [Ideal.ofBits_zero_f32, zero_add]
  exact Finset.sum_congr rfl fun b _ => Finset.sum_congr rfl fun s _ => pr_apply x0 x1 x2 x3 x4 x5 x6 b s e

/-- The reference's third result. -/
theorem los_eq : val_main_v51 (F := Ideal) x0 x1 x2 x3 x4 x5 x6 = fun _ => Spec.los x0 x1 x2 x3 x4 x5 x6 := by
  funext y
  rw [val_main_v51_apply, val_main_cst_10_apply]
  show Ideal.ofBits .f32 0#32 + _ = _
  rw [Ideal.ofBits_zero_f32, zero_add]
  unfold Spec.los Row.los
  refine (sum_idx1 _).trans (Finset.sum_congr rfl fun e _ => ?_)
  show val_main_v50 (F := Ideal) x0 x1 x2 x3 x4 x5 x6 (ValueIdx.ix1 e) = _
  rw [val_main_v50_apply, val_main_v49_apply, val_main_v48_apply, val_main_v46_apply, val_main_v44_apply, tot_apply, val_main_v43_apply,
    val_main_cst_7_apply, val_main_v45_apply, val_main_cst_8_apply, val_main_v47_apply, val_main_cst_9_apply]
  rfl

end Cert.RefValue

end
-- ==== Proof.Finite.lean ====
module

public import proofs.«01_k».proof.Proof.Spec
public import proofs.«01_k».proof.Proof.Gen.Pre_inputs_finite
public import Idealize.ShloMosaic.Lib.ReduceAll

@[expose] public section

set_option maxRecDepth 16384

noncomputable section

/-! What the precondition says: every entry of every argument is a real number. -/

namespace Cert.Pre_inputs_finite.Read

open Idealize.ShloMosaic Cert Cert.Pre_inputs_finite Cert.Pre_inputs_finite.Facts

/-- A number below infinity in absolute value is real. -/
theorem isFin_of_abs (a : EReal) (h : BitVec.ofBool (decide (max a (-a) < Ideal.ofBits .f32 0x7F800000#32)) = 1#1) : Row.IsFin a := by
  have h1 : max a (-a) < ⊤ := by
    rw [← Row.inf_eq]
    by_contra hc
    rw [decide_eq_false hc] at h
    exact absurd h (by decide)
  induction a using EReal.rec with
  | bot => exact absurd h1 (by simp)
  | coe r => exact ⟨r, rfl⟩
  | top => exact absurd h1 (by simp)

/-- A result without axes has one index. -/
instance : Subsingleton S_.Idx := ⟨fun i j => funext fun a => a.elim0⟩

/-- On arguments the precondition admits, every entry is a real number. -/
theorem fin7 {x0 : FVec Ideal S4x2048x2048 .f32} {x1 : FVec Ideal S2048x2048 .f32} {x2 : FVec Ideal S2048 .f32}
    {x3 : FVec Ideal S2048x64 .f32} {x4 : FVec Ideal S64 .f32} {x5 x6 : FVec Ideal S2048 .f32}
    (h : fn (F := Ideal) x0 x1 x2 x3 x4 x5 x6 = fun _ => 1#1) : Spec.Fin7 x0 x1 x2 x3 x4 x5 x6 := by
  have h := congrFun h (fun a => a.elim0)
  unfold fn fn_part1 at h
  dsimp only at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => isFin_of_abs _ (Host.reduce_andi_all _ _ _ _ _ h0 i), fun i => isFin_of_abs _ (Host.reduce_andi_all _ _ _ _ _ h1 i),
    fun i => isFin_of_abs _ (Host.reduce_andi_all _ _ _ _ _ h2 i), fun i => isFin_of_abs _ (Host.reduce_andi_all _ _ _ _ _ h3 i),
    fun i => isFin_of_abs _ (Host.reduce_andi_all _ _ _ _ _ h4 i), fun i => isFin_of_abs _ (Host.reduce_andi_all _ _ _ _ _ h5 i),
    fun i => isFin_of_abs _ (Host.reduce_andi_all _ _ _ _ _ h6 i)⟩

end Cert.Pre_inputs_finite.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import proofs.«01_k».proof.Proof.Gen.Pre_inputs_finite
public import proofs.«01_k».proof.Proof.Tail
public import proofs.«01_k».proof.Proof.RefVal
public import proofs.«01_k».proof.Proof.Finite
public import Idealize.ShloMosaic.Adequacy
public import Idealize.ShloMosaic.Init

@[expose] public section

noncomputable section

namespace Cert.Proof

open Idealize.ShloMosaic Idealize.SL.Sem

/-- The reference leaves its arguments as they were, and no semaphore counter is raised: it declares none. -/
theorem frame_r : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run m ρ)

/-- On finite arguments the kernel over the reals and the reference end with the same numbers of the experts chosen, the
    same weights and the same loss, each leaving its arguments as they were. -/
theorem algebraic : Cert.algebraic_KernelIdeal_ReferenceIdeal_pre_inputs_finite := by
  intro m g m' g' hpre hagree
  have hA : ∀ c, Cert.KernelIdeal.Block.FinA m c := fun c => Cert.Pre_inputs_finite.Read.fin7 (hpre c)
  refine ⟨fun c y => BitVec.ofNat 32 (Cert.TopK.sel (Cert.KernelIdeal.Block.prA m c (y 0) (y 1)) (y 2).val).val,
    fun c y => Ideal.div
      (Cert.KernelIdeal.Block.prA m c (y 0) (y 1) (Cert.TopK.sel (Cert.KernelIdeal.Block.prA m c (y 0) (y 1)) (y 2).val))
      (∑ j : Fin 8, Cert.KernelIdeal.Block.prA m c (y 0) (y 1)
        (Cert.TopK.sel (Cert.KernelIdeal.Block.prA m c (y 0) (y 1)) j.val)),
    fun c _ => Cert.Row.los fun e => ∑ b, ∑ s, Cert.KernelIdeal.Block.prA m c b s e,
    Cert.KernelIdeal.Block.run m g hA,
    θ_run_mono (Cert.ReferenceIdeal.Value.run m' g') fun r h c => ⟨(h c).1.trans ?_, (h c).2.1.trans ?_, (h c).2.2.1.trans ?_,
      (h c).2.2.2⟩⟩
  · obtain ⟨e0, e1, e2, e3, e4, e5, e6⟩ := hagree c
    rw [Cert.ReferenceIdeal.Read.val_main_indices_eq, e0, e1, e2, e3, e4, e5, e6]
    exact Cert.RefValue.idx_eq (hA c)
  · obtain ⟨e0, e1, e2, e3, e4, e5, e6⟩ := hagree c
    rw [Cert.ReferenceIdeal.Read.val_main_v41_eq, e0, e1, e2, e3, e4, e5, e6]
    exact Cert.RefValue.val_eq (hA c)
  · obtain ⟨e0, e1, e2, e3, e4, e5, e6⟩ := hagree c
    rw [Cert.ReferenceIdeal.Read.val_main_v51_eq, e0, e1, e2, e3, e4, e5, e6]
    exact Cert.RefValue.los_eq

/-- Everything the certificate claims. -/
theorem claim : Cert.Claim := ⟨Cert.Kernel.Gen.facts, Cert.KernelIdeal.Gen.facts, Cert.ReferenceIdeal.Gen.facts,
  Cert.Pre_inputs_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial, algebraic⟩

end Cert.Proof

end
